-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "sm_over_softcap" .f32 0x3C4CCCCD#32 ((1 / 80 : ℝ) : EReal)
  ∧ IdealRules.named_const.Statement Cert.KernelIdeal.κ "inv_log_2" .f32 0x3FB8AA3B#32 (((Real.log 2)⁻¹ : ℝ) : EReal)
  ∧ IdealRules.named_const.Statement Cert.KernelIdeal.κ "softcap_inv_log_2" .f32 0x40E6D4CA#32 ((5 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x16x256 : Shape := ⟨4, ![6, 4096, 16, 256]⟩
abbrev S16 : Shape := ⟨1, ![16]⟩
abbrev S6x4096x8x256 : Shape := ⟨4, ![6, 4096, 8, 256]⟩
abbrev S8 : Shape := ⟨1, ![8]⟩
abbrev S6x16x4096 : Shape := ⟨3, ![6, 16, 4096]⟩
abbrev S_ : Shape := ⟨0, ![]⟩
abbrev S1x16 : Shape := ⟨2, ![1, 16]⟩
abbrev S4x16 : Shape := ⟨2, ![4, 16]⟩
abbrev S6x16x16x256 : Shape := ⟨4, ![6, 16, 16, 256]⟩
abbrev S6x16x4096x256 : Shape := ⟨4, ![6, 16, 4096, 256]⟩
abbrev S6x8x4096x256 : Shape := ⟨4, ![6, 8, 4096, 256]⟩
abbrev S1x2x4096x256 : Shape := ⟨4, ![1, 2, 4096, 256]⟩
abbrev S1x1x4096x256 : Shape := ⟨4, ![1, 1, 4096, 256]⟩
abbrev S1x2x16x256 : Shape := ⟨4, ![1, 2, 16, 256]⟩
abbrev S2x16x256x256 : Shape := ⟨4, ![2, 16, 256, 256]⟩
abbrev S256x256 : Shape := ⟨2, ![256, 256]⟩
abbrev S2x16x256 : Shape := ⟨3, ![2, 16, 256]⟩
abbrev S1x1 : Shape := ⟨2, ![1, 1]⟩
abbrev S1x1x256x256 : Shape := ⟨4, ![1, 1, 256, 256]⟩
abbrev S256 : Shape := ⟨1, ![256]⟩
abbrev S1x256 : Shape := ⟨2, ![1, 256]⟩
abbrev S1x1x256 : Shape := ⟨3, ![1, 1, 256]⟩
abbrev S1x1x1x256 : Shape := ⟨4, ![1, 1, 1, 256]⟩

abbrev nBuf : Space → Nat
  | .hbm => 33
  | .vmem => 23
  | .smem => 1
  | _ => 0

abbrev bufTy : (tb : Table) → Fin (tcTables nBuf tb) → BufTy
  | .hbm, ⟨0, _⟩ => ⟨S6x4096x16x256, .fp8e4m3⟩
  | .hbm, ⟨1, _⟩ => ⟨S16, .f32⟩
  | .hbm, ⟨2, _⟩ => ⟨S6x4096x8x256, .fp8e4m3⟩
  | .hbm, ⟨3, _⟩ => ⟨S8, .f32⟩
  | .hbm, ⟨4, _⟩ => ⟨S6x4096x8x256, .fp8e4m3⟩
  | .hbm, ⟨5, _⟩ => ⟨S8, .f32⟩
  | .hbm, ⟨6, _⟩ => ⟨S6x4096x16x256, .fp8e5m2⟩
  | .hbm, ⟨7, _⟩ => ⟨S16, .f32⟩
  | .hbm, ⟨8, _⟩ => ⟨S6x4096x16x256, .bf16⟩
  | .hbm, ⟨9, _⟩ => ⟨S6x16x4096, .f32⟩
  | .hbm, ⟨10, _⟩ => ⟨S_, .i32⟩
  | .hbm, ⟨11, _⟩ => ⟨S_, .f32⟩
  | .hbm, ⟨12, _⟩ => ⟨S16, .f32⟩
  | .hbm, ⟨13, _⟩ => ⟨S_, .i32⟩
  | .hbm, ⟨14, _⟩ => ⟨S_, .f32⟩
  | .hbm, ⟨15, _⟩ => ⟨S16, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S4x16, .f32⟩
  | .hbm, ⟨21, _⟩ => ⟨S6x16x16x256, .f32⟩
  | .hbm, ⟨22, _⟩ => ⟨S6x16x4096x256, .fp8e4m3⟩
  | .hbm, ⟨23, _⟩ => ⟨S6x8x4096x256, .fp8e4m3⟩
  | .hbm, ⟨24, _⟩ => ⟨S6x8x4096x256, .fp8e4m3⟩
  | .hbm, ⟨25, _⟩ => ⟨S6x16x4096x256, .fp8e5m2⟩
  | .hbm, ⟨26, _⟩ => ⟨S6x16x4096x256, .bf16⟩
  | .hbm, ⟨27, _⟩ => ⟨S6x16x4096x256, .bf16⟩
  | .hbm, ⟨28, _⟩ => ⟨S6x8x4096x256, .bf16⟩
  | .hbm, ⟨29, _⟩ => ⟨S6x8x4096x256, .bf16⟩
  | .hbm, ⟨30, _⟩ => ⟨S6x4096x16x256, .bf16⟩
  | .hbm, ⟨31, _⟩ => ⟨S6x4096x8x256, .bf16⟩
  | .hbm, ⟨32, _⟩ => ⟨S6x4096x8x256, .bf16⟩
  | .local _ .vmem, ⟨0, _⟩ => ⟨S1x2x4096x256, .fp8e4m3⟩
  | .local _ .vmem, ⟨1, _⟩ => ⟨S1x2x4096x256, .fp8e4m3⟩
  | .local _ .vmem, ⟨2, _⟩ => ⟨S1x1x4096x256, .fp8e4m3⟩
  | .local _ .vmem, ⟨3, _⟩ => ⟨S1x1x4096x256, .fp8e4m3⟩
  | .local _ .vmem, ⟨4, _⟩ => ⟨S1x1x4096x256, .fp8e4m3⟩
  | .local _ .vmem, ⟨5, _⟩ => ⟨S1x1x4096x256, .fp8e4m3⟩
  | .local _ .vmem, ⟨6, _⟩ => ⟨S1x2x4096x256, .fp8e5m2⟩
  | .local _ .vmem, ⟨7, _⟩ => ⟨S1x2x4096x256, .fp8e5m2⟩
  | .local _ .vmem, ⟨8, _⟩ => ⟨S1x2x4096x256, .bf16⟩
  | .local _ .vmem, ⟨9, _⟩ => ⟨S1x2x4096x256, .bf16⟩
  | .local _ .vmem, ⟨10, _⟩ => ⟨S1x2x16x256, .f32⟩
  | .local _ .vmem, ⟨11, _⟩ => ⟨S1x2x16x256, .f32⟩
  | .local _ .vmem, ⟨12, _⟩ => ⟨S1x2x4096x256, .bf16⟩
  | .local _ .vmem, ⟨13, _⟩ => ⟨S1x2x4096x256, .bf16⟩
  | .local _ .vmem, ⟨14, _⟩ => ⟨S1x1x4096x256, .bf16⟩
  | .local _ .vmem, ⟨15, _⟩ => ⟨S1x1x4096x256, .bf16⟩
  | .local _ .vmem, ⟨16, _⟩ => ⟨S1x1x4096x256, .bf16⟩
  | .local _ .vmem, ⟨17, _⟩ => ⟨S1x1x4096x256, .bf16⟩
  | .local _ .vmem, ⟨18, _⟩ => ⟨S2x16x256x256, .f32⟩
  | .local _ .vmem, ⟨19, _⟩ => ⟨S256x256, .bf16⟩
  | .local _ .vmem, ⟨20, _⟩ => ⟨S256x256, .f32⟩
  | .local _ .vmem, ⟨21, _⟩ => ⟨S256x256, .f32⟩
  | .local _ .vmem, ⟨22, _⟩ => ⟨S2x16x256, .f32⟩
  | .local _ .smem, ⟨0, _⟩ => ⟨S4x16, .f32⟩
  | _, _ => ⟨S6x4096x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 8], ![false, false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v9 : BitVec 32 := Scalar.muli arg17 c256_i32
  v9
def k0_off1 (i : grid0.Coords) (c0_i32_12 : BitVec 32) : Fin 2 → Nat :=
  let c2 : Index := 2#32
  let arg1 : BitVec 32 := BitVec.ofNat 32 (i 1).val
  let c2_i32 : BitVec 32 := 2#32
  let v11 : BitVec 32 := Scalar.muli arg1 c2_i32
  let v12 : BitVec 32 := Scalar.addi v11 c0_i32_12
  let v13 : Index := Scalar.indexCast v12
  ![2, v13.toNat]
def k0_off2 (k0_t1 : Fin k0_t1_loop.trips) : Fin 4 → Nat :=
  let c0_13 : Index := 0#32
  let c0_14 : Index := 0#32
  let c0_i32 : BitVec 32 := 0#32
  let c1_i32 : BitVec 32 := 1#32
  let arg17 : BitVec 32 := Scf.iv c0_i32 c1_i32 k0_t1
  let c256_i32 : BitVec 32 := 256#32
  let v9 : BitVec 32 := Scalar.muli arg17 c256_i32
  let v10 : BitVec 32 := v9
  let v15 : Index := Scalar.indexCast v10
  let c0_15 : Index := 0#32
  ![0, 0, v15.toNat, 0]
def k0_off3 (k0_t1 : Fin k0_t1_loop.trips) : Fin 3 → Nat :=
  let c0_20 : Index := 0#32
  let c0_i32 : BitVec 32 := 0#32
  let c1_i32 : BitVec 32 := 1#32
  let arg17 : BitVec 32 := Scf.iv c0_i32 c1_i32 k0_t1
  let v29 : Index := Scalar.indexCast arg17
  let c0_21 : Index := 0#32
  ![0, v29.toNat, 0]
def k0_off4 (k0_t1 : Fin k0_t1_loop.trips) : Fin 4 → Nat :=
  let c0_25 : Index := 0#32
  let c1 : Index := 1#32
  let c0_i32 : BitVec 32 := 0#32
  let c1_i32 : BitVec 32 := 1#32
  let arg17 : BitVec 32 := Scf.iv c0_i32 c1_i32 k0_t1
  let c256_i32 : BitVec 32 := 256#32
  let v9 : BitVec 32 := Scalar.muli arg17 c256_i32
  let v10 : BitVec 32 := v9
  let v37 : Index := Scalar.indexCast v10
  let c0_26 : Index := 0#32
  ![0, 1, v37.toNat, 0]
def k0_off5 (k0_t1 : Fin k0_t1_loop.trips) : Fin 3 → Nat :=
  let c1_31 : Index := 1#32
  let c0_i32 : BitVec 32 := 0#32
  let c1_i32 : BitVec 32 := 1#32
  let arg17 : BitVec 32 := Scf.iv c0_i32 c1_i32 k0_t1
  let v51 : Index := Scalar.indexCast arg17
  let c0_32 : Index := 0#32
  ![1, v51.toNat, 0]
@[reducible] def k0_t2_loop : Scf.Loop 32 :=
  let c0_i32_4 : BitVec 32 := 0#32
  let c16_i32_5 : BitVec 32 := 16#32
  let v7 : BitVec 32 := Scalar.addi c0_i32_4 c16_i32_5
  let c1_i32_6 : BitVec 32 := 1#32
  ⟨c0_i32_4, v7, c1_i32_6⟩
def k0_mult2 (k0_t2 : Fin k0_t2_loop.trips) : BitVec 32 :=
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  v9
def k0_off6 (k0_t2 : Fin k0_t2_loop.trips) : Fin 4 → Nat :=
  let c0_12 : Index := 0#32
  let c0_13 : Index := 0#32
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  let v10 : BitVec 32 := v9
  let v11 : Index := Scalar.indexCast v10
  let c0_14 : Index := 0#32
  ![0, 0, v11.toNat, 0]
def k0_off7 (i : grid0.Coords) (c0_i32_19 : BitVec 32) : Fin 2 → Nat :=
  let c0_20 : Index := 0#32
  let arg1 : BitVec 32 := BitVec.ofNat 32 (i 1).val
  let c2_i32 : BitVec 32 := 2#32
  let v22 : BitVec 32 := Scalar.muli arg1 c2_i32
  let v23 : BitVec 32 := Scalar.addi v22 c0_i32_19
  let v24 : Index := Scalar.indexCast v23
  ![0, v24.toNat]
def k0_off8 (i : grid0.Coords) : Fin 2 → Nat :=
  let c1 : Index := 1#32
  let arg1 : BitVec 32 := BitVec.ofNat 32 (i 1).val
  let v26 : Index := Scalar.indexCast arg1
  ![1, v26.toNat]
def k0_off9 (i : grid0.Coords) (c0_i32_19 : BitVec 32) : Fin 2 → Nat :=
  let c2 : Index := 2#32
  let arg1 : BitVec 32 := BitVec.ofNat 32 (i 1).val
  let c2_i32 : BitVec 32 := 2#32
  let v22 : BitVec 32 := Scalar.muli arg1 c2_i32
  let v23 : BitVec 32 := Scalar.addi v22 c0_i32_19
  let v30 : Index := Scalar.indexCast v23
  ![2, v30.toNat]
def k0_off10 (i : grid0.Coords) : Fin 2 → Nat :=
  let c3 : Index := 3#32
  let arg1 : BitVec 32 := BitVec.ofNat 32 (i 1).val
  let v32 : Index := Scalar.indexCast arg1
  ![3, v32.toNat]
@[reducible] def k0_t3_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_32 : BitVec 32 := 1#32
  ⟨arg17, v50, c1_i32_32⟩
def k0_mult3 (k0_t2 : Fin k0_t2_loop.trips) (k0_t3 : Fin (k0_t3_loop k0_t2).trips) : BitVec 32 :=
  let c0_i32_4 : BitVec 32 := 0#32
  let c1_i32_6 : BitVec 32 := 1#32
  let arg17 : BitVec 32 := Scf.iv c0_i32_4 c1_i32_6 k0_t2
  let c1_i32_32 : BitVec 32 := 1#32
  let arg18 : BitVec 32 := Scf.iv arg17 c1_i32_32 k0_t3
  let c256_i32_74 : BitVec 32 := 256#32
  let v116 : BitVec 32 := Scalar.muli arg18 c256_i32_74
  v116
def k0_off11 (k0_t2 : Fin k0_t2_loop.trips) (k0_t3 : Fin (k0_t3_loop k0_t2).trips) : Fin 4 → Nat :=
  let c0_75 : Index := 0#32
  let c0_76 : Index := 0#32
  let c0_i32_4 : BitVec 32 := 0#32
  let c1_i32_6 : BitVec 32 := 1#32
  let arg17 : BitVec 32 := Scf.iv c0_i32_4 c1_i32_6 k0_t2
  let c1_i32_32 : BitVec 32 := 1#32
  let arg18 : BitVec 32 := Scf.iv arg17 c1_i32_32 k0_t3
  let c256_i32_74 : BitVec 32 := 256#32
  let v116 : BitVec 32 := Scalar.muli arg18 c256_i32_74
  let v117 : BitVec 32 := v116
  let v118 : Index := Scalar.indexCast v117
  let c0_77 : Index := 0#32
  ![0, 0, v118.toNat, 0]
def k0_off12 (k0_t2 : Fin k0_t2_loop.trips) : Fin 4 → Nat :=
  let c0_81 : Index := 0#32
  let c0_82 : Index := 0#32
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  let v10 : BitVec 32 := v9
  let v125 : Index := Scalar.indexCast v10
  let c0_83 : Index := 0#32
  ![0, 0, v125.toNat, 0]
def k0_off13 (k0_t2 : Fin k0_t2_loop.trips) (k0_t3 : Fin (k0_t3_loop k0_t2).trips) : Fin 4 → Nat :=
  let c0_88 : Index := 0#32
  let c0_89 : Index := 0#32
  let c0_i32_4 : BitVec 32 := 0#32
  let c1_i32_6 : BitVec 32 := 1#32
  let arg17 : BitVec 32 := Scf.iv c0_i32_4 c1_i32_6 k0_t2
  let c1_i32_32 : BitVec 32 := 1#32
  let arg18 : BitVec 32 := Scf.iv arg17 c1_i32_32 k0_t3
  let v135 : Index := Scalar.indexCast arg18
  let c0_90 : Index := 0#32
  ![0, 0, v135.toNat, 0]
def k0_off14 (k0_t2 : Fin k0_t2_loop.trips) (k0_t3 : Fin (k0_t3_loop k0_t2).trips) : Fin 3 → Nat :=
  let c0_97 : Index := 0#32
  let c0_i32_4 : BitVec 32 := 0#32
  let c1_i32_6 : BitVec 32 := 1#32
  let arg17 : BitVec 32 := Scf.iv c0_i32_4 c1_i32_6 k0_t2
  let c1_i32_32 : BitVec 32 := 1#32
  let arg18 : BitVec 32 := Scf.iv arg17 c1_i32_32 k0_t3
  let v160 : Index := Scalar.indexCast arg18
  let c0_98 : Index := 0#32
  ![0, v160.toNat, 0]
def k0_off15 (k0_t2 : Fin k0_t2_loop.trips) (k0_t3 : Fin (k0_t3_loop k0_t2).trips) : Fin 4 → Nat :=
  let c0_110 : Index := 0#32
  let c0_i32_4 : BitVec 32 := 0#32
  let c1_i32_6 : BitVec 32 := 1#32
  let arg17 : BitVec 32 := Scf.iv c0_i32_4 c1_i32_6 k0_t2
  let c1_i32_32 : BitVec 32 := 1#32
  let arg18 : BitVec 32 := Scf.iv arg17 c1_i32_32 k0_t3
  let v185 : Index := Scalar.indexCast arg18
  let c0_111 : Index := 0#32
  let c0_112 : Index := 0#32
  ![0, v185.toNat, 0, 0]
@[reducible] def k0_t4_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let v47 : BitVec 32 := Scalar.addi arg17 v46
  let c1_i32_33 : BitVec 32 := 1#32
  ⟨v50, v47, c1_i32_33⟩
def k0_mult4 (k0_t2 : Fin k0_t2_loop.trips) (k0_t4 : Fin (k0_t4_loop k0_t2).trips) : BitVec 32 :=
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_33 : BitVec 32 := 1#32
  let arg18 : BitVec 32 := Scf.iv v50 c1_i32_33 k0_t4
  let c256_i32_74 : BitVec 32 := 256#32
  let v116 : BitVec 32 := Scalar.muli arg18 c256_i32_74
  v116
def k0_off16 (k0_t2 : Fin k0_t2_loop.trips) (k0_t4 : Fin (k0_t4_loop k0_t2).trips) : Fin 4 → Nat :=
  let c0_75 : Index := 0#32
  let c0_76 : Index := 0#32
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_33 : BitVec 32 := 1#32
  let arg18 : BitVec 32 := Scf.iv v50 c1_i32_33 k0_t4
  let c256_i32_74 : BitVec 32 := 256#32
  let v116 : BitVec 32 := Scalar.muli arg18 c256_i32_74
  let v117 : BitVec 32 := v116
  let v118 : Index := Scalar.indexCast v117
  let c0_77 : Index := 0#32
  ![0, 0, v118.toNat, 0]
def k0_off17 (k0_t2 : Fin k0_t2_loop.trips) : Fin 4 → Nat :=
  let c0_81 : Index := 0#32
  let c0_82 : Index := 0#32
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  let v10 : BitVec 32 := v9
  let v125 : Index := Scalar.indexCast v10
  let c0_83 : Index := 0#32
  ![0, 0, v125.toNat, 0]
def k0_off18 (k0_t2 : Fin k0_t2_loop.trips) (k0_t4 : Fin (k0_t4_loop k0_t2).trips) : Fin 4 → Nat :=
  let c0_88 : Index := 0#32
  let c0_89 : Index := 0#32
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_33 : BitVec 32 := 1#32
  let arg18 : BitVec 32 := Scf.iv v50 c1_i32_33 k0_t4
  let v135 : Index := Scalar.indexCast arg18
  let c0_90 : Index := 0#32
  ![0, 0, v135.toNat, 0]
def k0_off19 (k0_t2 : Fin k0_t2_loop.trips) (k0_t4 : Fin (k0_t4_loop k0_t2).trips) : Fin 3 → Nat :=
  let c0_97 : Index := 0#32
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_33 : BitVec 32 := 1#32
  let arg18 : BitVec 32 := Scf.iv v50 c1_i32_33 k0_t4
  let v160 : Index := Scalar.indexCast arg18
  let c0_98 : Index := 0#32
  ![0, v160.toNat, 0]
def k0_off20 (k0_t2 : Fin k0_t2_loop.trips) (k0_t4 : Fin (k0_t4_loop k0_t2).trips) : Fin 4 → Nat :=
  let c0_110 : Index := 0#32
  let c0_i32_4 : BitVec 32 := 0#32
  let c1_i32_6 : BitVec 32 := 1#32
  let arg17 : BitVec 32 := Scf.iv c0_i32_4 c1_i32_6 k0_t2
  let c8_i32 : BitVec 32 := 8#32
  let v43 : BitVec 32 := Scalar.addi arg17 c8_i32
  let c1_i32_28 : BitVec 32 := 1#32
  let v44 : BitVec 32 := Scalar.addi v43 c1_i32_28
  let c16_i32_29 : BitVec 32 := 16#32
  let v45 : BitVec 32 := Scalar.minsi v44 c16_i32_29
  let v46 : BitVec 32 := Scalar.subi v45 arg17
  let c1_i32_31 : BitVec 32 := 1#32
  let v48 : BitVec 32 := Scalar.divsi v46 c1_i32_31
  let v49 : BitVec 32 := Scalar.muli v48 c1_i32_31
  let v50 : BitVec 32 := Scalar.addi arg17 v49
  let c1_i32_33 : BitVec 32 := 1#32
  let arg18 : BitVec 32 := Scf.iv v50 c1_i32_33 k0_t4
  let v185 : Index := Scalar.indexCast arg18
  let c0_111 : Index := 0#32
  let c0_112 : Index := 0#32
  ![0, v185.toNat, 0, 0]
@[reducible] def k0_t5_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_59 : BitVec 32 := 1#32
  ⟨arg17, v92, c1_i32_59⟩
def k0_mult5 (k0_t2 : Fin k0_t2_loop.trips) (k0_t5 : Fin (k0_t5_loop k0_t2).trips) : BitVec 32 :=
  let c0_i32_4 : BitVec 32 := 0#32
  let c1_i32_6 : BitVec 32 := 1#32
  let arg17 : BitVec 32 := Scf.iv c0_i32_4 c1_i32_6 k0_t2
  let c1_i32_59 : BitVec 32 := 1#32
  let arg18 : BitVec 32 := Scf.iv arg17 c1_i32_59 k0_t5
  let c256_i32_74 : BitVec 32 := 256#32
  let v116 : BitVec 32 := Scalar.muli arg18 c256_i32_74
  v116
def k0_off21 (k0_t2 : Fin k0_t2_loop.trips) (k0_t5 : Fin (k0_t5_loop k0_t2).trips) : Fin 4 → Nat :=
  let c0_75 : Index := 0#32
  let c1_76 : Index := 1#32
  let c0_i32_4 : BitVec 32 := 0#32
  let c1_i32_6 : BitVec 32 := 1#32
  let arg17 : BitVec 32 := Scf.iv c0_i32_4 c1_i32_6 k0_t2
  let c1_i32_59 : BitVec 32 := 1#32
  let arg18 : BitVec 32 := Scf.iv arg17 c1_i32_59 k0_t5
  let c256_i32_74 : BitVec 32 := 256#32
  let v116 : BitVec 32 := Scalar.muli arg18 c256_i32_74
  let v117 : BitVec 32 := v116
  let v118 : Index := Scalar.indexCast v117
  let c0_77 : Index := 0#32
  ![0, 1, v118.toNat, 0]
def k0_off22 (k0_t2 : Fin k0_t2_loop.trips) : Fin 4 → Nat :=
  let c0_81 : Index := 0#32
  let c0_82 : Index := 0#32
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  let v10 : BitVec 32 := v9
  let v125 : Index := Scalar.indexCast v10
  let c0_83 : Index := 0#32
  ![0, 0, v125.toNat, 0]
def k0_off23 (k0_t2 : Fin k0_t2_loop.trips) (k0_t5 : Fin (k0_t5_loop k0_t2).trips) : Fin 4 → Nat :=
  let c0_88 : Index := 0#32
  let c1_89 : Index := 1#32
  let c0_i32_4 : BitVec 32 := 0#32
  let c1_i32_6 : BitVec 32 := 1#32
  let arg17 : BitVec 32 := Scf.iv c0_i32_4 c1_i32_6 k0_t2
  let c1_i32_59 : BitVec 32 := 1#32
  let arg18 : BitVec 32 := Scf.iv arg17 c1_i32_59 k0_t5
  let v135 : Index := Scalar.indexCast arg18
  let c0_90 : Index := 0#32
  ![0, 1, v135.toNat, 0]
def k0_off24 (k0_t2 : Fin k0_t2_loop.trips) (k0_t5 : Fin (k0_t5_loop k0_t2).trips) : Fin 3 → Nat :=
  let c1_97 : Index := 1#32
  let c0_i32_4 : BitVec 32 := 0#32
  let c1_i32_6 : BitVec 32 := 1#32
  let arg17 : BitVec 32 := Scf.iv c0_i32_4 c1_i32_6 k0_t2
  let c1_i32_59 : BitVec 32 := 1#32
  let arg18 : BitVec 32 := Scf.iv arg17 c1_i32_59 k0_t5
  let v160 : Index := Scalar.indexCast arg18
  let c0_98 : Index := 0#32
  ![1, v160.toNat, 0]
def k0_off25 (k0_t2 : Fin k0_t2_loop.trips) (k0_t5 : Fin (k0_t5_loop k0_t2).trips) : Fin 4 → Nat :=
  let c1_110 : Index := 1#32
  let c0_i32_4 : BitVec 32 := 0#32
  let c1_i32_6 : BitVec 32 := 1#32
  let arg17 : BitVec 32 := Scf.iv c0_i32_4 c1_i32_6 k0_t2
  let c1_i32_59 : BitVec 32 := 1#32
  let arg18 : BitVec 32 := Scf.iv arg17 c1_i32_59 k0_t5
  let v185 : Index := Scalar.indexCast arg18
  let c0_111 : Index := 0#32
  let c0_112 : Index := 0#32
  ![1, v185.toNat, 0, 0]
@[reducible] def k0_t6_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let v89 : BitVec 32 := Scalar.addi arg17 v88
  let c1_i32_60 : BitVec 32 := 1#32
  ⟨v92, v89, c1_i32_60⟩
def k0_mult6 (k0_t2 : Fin k0_t2_loop.trips) (k0_t6 : Fin (k0_t6_loop k0_t2).trips) : BitVec 32 :=
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_60 : BitVec 32 := 1#32
  let arg18 : BitVec 32 := Scf.iv v92 c1_i32_60 k0_t6
  let c256_i32_74 : BitVec 32 := 256#32
  let v116 : BitVec 32 := Scalar.muli arg18 c256_i32_74
  v116
def k0_off26 (k0_t2 : Fin k0_t2_loop.trips) (k0_t6 : Fin (k0_t6_loop k0_t2).trips) : Fin 4 → Nat :=
  let c0_75 : Index := 0#32
  let c1_76 : Index := 1#32
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_60 : BitVec 32 := 1#32
  let arg18 : BitVec 32 := Scf.iv v92 c1_i32_60 k0_t6
  let c256_i32_74 : BitVec 32 := 256#32
  let v116 : BitVec 32 := Scalar.muli arg18 c256_i32_74
  let v117 : BitVec 32 := v116
  let v118 : Index := Scalar.indexCast v117
  let c0_77 : Index := 0#32
  ![0, 1, v118.toNat, 0]
def k0_off27 (k0_t2 : Fin k0_t2_loop.trips) : Fin 4 → Nat :=
  let c0_81 : Index := 0#32
  let c0_82 : Index := 0#32
  let c0_i32_4 : BitVec 32 := 0#32
  let c1_i32_6 : BitVec 32 := 1#32
  let arg17 : BitVec 32 := Scf.iv c0_i32_4 c1_i32_6 k0_t2
  let c256_i32 : BitVec 32 := 256#32
  let v9 : BitVec 32 := Scalar.muli arg17 c256_i32
  let v10 : BitVec 32 := v9
  let v125 : Index := Scalar.indexCast v10
  let c0_83 : Index := 0#32
  ![0, 0, v125.toNat, 0]
def k0_off28 (k0_t2 : Fin k0_t2_loop.trips) (k0_t6 : Fin (k0_t6_loop k0_t2).trips) : Fin 4 → Nat :=
  let c0_88 : Index := 0#32
  let c1_89 : Index := 1#32
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_60 : BitVec 32 := 1#32
  let arg18 : BitVec 32 := Scf.iv v92 c1_i32_60 k0_t6
  let v135 : Index := Scalar.indexCast arg18
  let c0_90 : Index := 0#32
  ![0, 1, v135.toNat, 0]
def k0_off29 (k0_t2 : Fin k0_t2_loop.trips) (k0_t6 : Fin (k0_t6_loop k0_t2).trips) : Fin 3 → Nat :=
  let c1_97 : Index := 1#32
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_60 : BitVec 32 := 1#32
  let arg18 : BitVec 32 := Scf.iv v92 c1_i32_60 k0_t6
  let v160 : Index := Scalar.indexCast arg18
  let c0_98 : Index := 0#32
  ![1, v160.toNat, 0]
def k0_off30 (k0_t2 : Fin k0_t2_loop.trips) (k0_t6 : Fin (k0_t6_loop k0_t2).trips) : Fin 4 → Nat :=
  let c1_110 : Index := 1#32
  let c0_i32_4 : BitVec 32 := 0#32
  let c1_i32_6 : BitVec 32 := 1#32
  let arg17 : BitVec 32 := Scf.iv c0_i32_4 c1_i32_6 k0_t2
  let c8_i32_54 : BitVec 32 := 8#32
  let v85 : BitVec 32 := Scalar.addi arg17 c8_i32_54
  let c1_i32_55 : BitVec 32 := 1#32
  let v86 : BitVec 32 := Scalar.addi v85 c1_i32_55
  let c16_i32_56 : BitVec 32 := 16#32
  let v87 : BitVec 32 := Scalar.minsi v86 c16_i32_56
  let v88 : BitVec 32 := Scalar.subi v87 arg17
  let c1_i32_58 : BitVec 32 := 1#32
  let v90 : BitVec 32 := Scalar.divsi v88 c1_i32_58
  let v91 : BitVec 32 := Scalar.muli v90 c1_i32_58
  let v92 : BitVec 32 := Scalar.addi arg17 v91
  let c1_i32_60 : BitVec 32 := 1#32
  let arg18 : BitVec 32 := Scf.iv v92 c1_i32_60 k0_t6
  let v185 : Index := Scalar.indexCast arg18
  let c0_111 : Index := 0#32
  let c0_112 : Index := 0#32
  ![1, v185.toNat, 0, 0]
@[reducible] def k0_t7_loop : Scf.Loop 32 :=
  let c0_i32_8 : BitVec 32 := 0#32
  let c16_i32_9 : BitVec 32 := 16#32
  let v8 : BitVec 32 := Scalar.addi c0_i32_8 c16_i32_9
  let c1_i32_10 : BitVec 32 := 1#32
  ⟨c0_i32_8, v8, c1_i32_10⟩
def k0_mult7 (k0_t7 : Fin k0_t7_loop.trips) : BitVec 32 :=
  let c0_i32_8 : BitVec 32 := 0#32
  let c1_i32_10 : BitVec 32 := 1#32
  let arg17 : BitVec 32 := Scf.iv c0_i32_8 c1_i32_10 k0_t7
  let c256_i32 : BitVec 32 := 256#32
  let v9 : BitVec 32 := Scalar.muli arg17 c256_i32
  v9
def k0_off31 (k0_t7 : Fin k0_t7_loop.trips) : Fin 4 → Nat :=
  let c0_12 : Index := 0#32
  let c0_i32_8 : BitVec 32 := 0#32
  let c1_i32_10 : BitVec 32 := 1#32
  let arg17 : BitVec 32 := Scf.iv c0_i32_8 c1_i32_10 k0_t7
  let v11 : Index := Scalar.indexCast arg17
  let c0_13 : Index := 0#32
  let c0_14 : Index := 0#32
  ![0, v11.toNat, 0, 0]
def k0_off32 (i : grid0.Coords) : Fin 2 → Nat :=
  let c1 : Index := 1#32
  let arg1 : BitVec 32 := BitVec.ofNat 32 (i 1).val
  let v15 : Index := Scalar.indexCast arg1
  ![1, v15.toNat]
def k0_off33 (k0_t7 : Fin k0_t7_loop.trips) : Fin 4 → Nat :=
  let c0_16 : Index := 0#32
  let c0_17 : Index := 0#32
  let c0_i32_8 : BitVec 32 := 0#32
  let c1_i32_10 : BitVec 32 := 1#32
  let arg17 : BitVec 32 := Scf.iv c0_i32_8 c1_i32_10 k0_t7
  let c256_i32 : BitVec 32 := 256#32
  let v9 : BitVec 32 := Scalar.muli arg17 c256_i32
  let v10 : BitVec 32 := v9
  let v21 : Index := Scalar.indexCast v10
  let c0_18 : Index := 0#32
  ![0, 0, v21.toNat, 0]
def k0_off34 (k0_t7 : Fin k0_t7_loop.trips) : Fin 4 → Nat :=
  let c1_19 : Index := 1#32
  let c0_i32_8 : BitVec 32 := 0#32
  let c1_i32_10 : BitVec 32 := 1#32
  let arg17 : BitVec 32 := Scf.iv c0_i32_8 c1_i32_10 k0_t7
  let v25 : Index := Scalar.indexCast arg17
  let c0_20 : Index := 0#32
  let c0_21 : Index := 0#32
  ![1, v25.toNat, 0, 0]
def k0_off35 (k0_t7 : Fin k0_t7_loop.trips) : Fin 4 → Nat :=
  let c0_24 : Index := 0#32
  let c1_25 : Index := 1#32
  let c0_i32_8 : BitVec 32 := 0#32
  let c1_i32_10 : BitVec 32 := 1#32
  let arg17 : BitVec 32 := Scf.iv c0_i32_8 c1_i32_10 k0_t7
  let c256_i32 : BitVec 32 := 256#32
  let v9 : BitVec 32 := Scalar.muli arg17 c256_i32
  let v10 : BitVec 32 := v9
  let v35 : Index := Scalar.indexCast v10
  let c0_26 : Index := 0#32
  ![0, 1, v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_log_2" => some (((Real.log 2)⁻¹ : ℝ) : EReal)
  | "sm_over_softcap" => some ((1 / 80 : ℝ) : EReal)
  | "softcap_inv_log_2" => some ((5 * (Real.log 2)⁻¹ : ℝ) : EReal)
  | _ => none
-- ==== ReferenceIdeal.lean ====
abbrev S6x4096x16x256 : Shape := ⟨4, ![6, 4096, 16, 256]⟩
abbrev S16 : Shape := ⟨1, ![16]⟩
abbrev S6x4096x8x256 : Shape := ⟨4, ![6, 4096, 8, 256]⟩
abbrev S8 : Shape := ⟨1, ![8]⟩
abbrev S6x16x4096 : Shape := ⟨3, ![6, 16, 4096]⟩
abbrev S1x1x16x1 : Shape := ⟨4, ![1, 1, 16, 1]⟩
abbrev S6x4096x8x2x256 : Shape := ⟨5, ![6, 4096, 8, 2, 256]⟩
abbrev S6x8x2x4096 : Shape := ⟨4, ![6, 8, 2, 4096]⟩
abbrev S8x2 : Shape := ⟨2, ![8, 2]⟩
abbrev S8x1 : Shape := ⟨2, ![8, 1]⟩
abbrev S_ : Shape := ⟨0, ![]⟩
abbrev S1x8x2x1x1 : Shape := ⟨5, ![1, 8, 2, 1, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S6x8x4096x4096x2 : Shape := ⟨5, ![6, 8, 4096, 4096, 2]⟩
abbrev S6x8x2x4096x4096 : Shape := ⟨5, ![6, 8, 2, 4096, 4096]⟩
abbrev S6x8x2x4096x1 : Shape := ⟨5, ![6, 8, 2, 4096, 1]⟩
abbrev S6x8x256x2x4096 : Shape := ⟨5, ![6, 8, 256, 2, 4096]⟩
abbrev S1x1x8x1x1 : Shape := ⟨5, ![1, 1, 8, 1, 1]⟩
abbrev S6x8x2x256x4096 : Shape := ⟨5, ![6, 8, 2, 256, 4096]⟩
abbrev S1x1x8x2x1 : Shape := ⟨5, ![1, 1, 8, 2, 1]⟩

abbrev nBuf : Space → Nat
  | .hbm => 116
  | .vmem => 8
  | .smem => 0
  | _ => 0

abbrev bufTy : (tb : Table) → Fin (tcTables nBuf tb) → BufTy
  | .hbm, ⟨0, _⟩ => ⟨S6x4096x16x256, .fp8e4m3⟩
  | .hbm, ⟨1, _⟩ => ⟨S16, .f32⟩
  | .hbm, ⟨2, _⟩ => ⟨S6x4096x8x256, .fp8e4m3⟩
  | .hbm, ⟨3, _⟩ => ⟨S8, .f32⟩
  | .hbm, ⟨4, _⟩ => ⟨S6x4096x8x256, .fp8e4m3⟩
  | .hbm, ⟨5, _⟩ => ⟨S8, .f32⟩
  | .hbm, ⟨6, _⟩ => ⟨S6x4096x16x256, .fp8e5m2⟩
  | .hbm, ⟨7, _⟩ => ⟨S16, .f32⟩
  | .hbm, ⟨8, _⟩ => ⟨S6x4096x16x256, .bf16⟩
  | .hbm, ⟨9, _⟩ => ⟨S6x16x4096, .f32⟩
  | .hbm, ⟨10, _⟩ => ⟨S6x4096x16x256, .f32⟩
  | .hbm, ⟨11, _⟩ => ⟨S6x4096x8x256, .f32⟩
  | .hbm, ⟨12, _⟩ => ⟨S6x4096x8x256, .f32⟩
  | .hbm, ⟨13, _⟩ => ⟨S6x4096x16x256, .f32⟩
  | .hbm, ⟨14, _⟩ => ⟨S1x1x16x1, .f32⟩
  | .hbm, ⟨15, _⟩ => ⟨S6x4096x16x256, .f32⟩
  | .hbm, ⟨16, _⟩ => ⟨S6x4096x16x256, .f32⟩
  | .hbm, ⟨17, _⟩ => ⟨S6x4096x16x256, .f32⟩
  | .hbm, ⟨18, _⟩ => ⟨S6x16x4096, .f32⟩
  | .hbm, ⟨19, _⟩ => ⟨S6x4096x8x2x256, .f32⟩
  | .hbm, ⟨20, _⟩ => ⟨S6x4096x8x2x256, .f32⟩
  | .hbm, ⟨21, _⟩ => ⟨S6x8x2x4096, .f32⟩
  | .hbm, ⟨22, _⟩ => ⟨S6x8x2x4096, .f32⟩
  | .hbm, ⟨23, _⟩ => ⟨S8x2, .f32⟩
  | .hbm, ⟨24, _⟩ => ⟨S8x2, .f32⟩
  | .hbm, ⟨25, _⟩ => ⟨S8x1, .f32⟩
  | .hbm, ⟨26, _⟩ => ⟨S8x2, .f32⟩
  | .hbm, ⟨27, _⟩ => ⟨S8x2, .f32⟩
  | .hbm, ⟨28, _⟩ => ⟨S_, .f32⟩
  | .hbm, ⟨29, _⟩ => ⟨S8x2, .f32⟩
  | .hbm, ⟨30, _⟩ => ⟨S8x2, .f32⟩
  | .hbm, ⟨31, _⟩ => ⟨S1x8x2x1x1, .f32⟩
  | .hbm, ⟨32, _⟩ => ⟨S8x1, .f32⟩
  | .hbm, ⟨33, _⟩ => ⟨S8x2, .f32⟩
  | .hbm, ⟨34, _⟩ => ⟨S8x2, .f32⟩
  | .hbm, ⟨35, _⟩ => ⟨S1x8x2x1x1, .f32⟩
  | .hbm, ⟨36, _⟩ => ⟨S4096, .i32⟩
  | .hbm, ⟨37, _⟩ => ⟨S4096x1, .i32⟩
  | .hbm, ⟨38, _⟩ => ⟨S4096, .i32⟩
  | .hbm, ⟨39, _⟩ => ⟨S1x4096, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S4096x4096, .i1⟩
  | .hbm, ⟨50, _⟩ => ⟨S6x8x4096x4096x2, .f32⟩
  | .hbm, ⟨51, _⟩ => ⟨S6x8x2x4096x4096, .f32⟩
  | .hbm, ⟨52, _⟩ => ⟨S6x8x2x4096x4096, .f32⟩
  | .hbm, ⟨53, _⟩ => ⟨S6x8x2x4096x4096, .f32⟩
  | .hbm, ⟨54, _⟩ => ⟨S_, .f32⟩
  | .hbm, ⟨55, _⟩ => ⟨S6x8x2x4096x4096, .f32⟩
  | .hbm, ⟨56, _⟩ => ⟨S6x8x2x4096x4096, .f32⟩
  | .hbm, ⟨57, _⟩ => ⟨S6x8x2x4096x4096, .f32⟩
  | .hbm, ⟨58, _⟩ => ⟨S_, .f32⟩
  | .hbm, ⟨59, _⟩ => ⟨S6x8x2x4096x4096, .f32⟩
  | .hbm, ⟨60, _⟩ => ⟨S6x8x2x4096x4096, .f32⟩
  | .hbm, ⟨61, _⟩ => ⟨S6x8x2x4096x1, .f32⟩
  | .hbm, ⟨62, _⟩ => ⟨S6x8x2x4096x4096, .f32⟩
  | .hbm, ⟨63, _⟩ => ⟨S6x8x2x4096x4096, .f32⟩
  | .hbm, ⟨64, _⟩ => ⟨S6x8x2x4096x4096, .f32⟩
  | .hbm, ⟨65, _⟩ => ⟨S_, .f32⟩
  | .hbm, ⟨66, _⟩ => ⟨S_, .f32⟩
  | .hbm, ⟨67, _⟩ => ⟨S6x8x2x4096x4096, .i1⟩
  | .hbm, ⟨68, _⟩ => ⟨S6x8x2x4096x4096, .f32⟩
  | .hbm, ⟨69, _⟩ => ⟨S6x8x2x4096x4096, .f32⟩
  | .hbm, ⟨70, _⟩ => ⟨S6x8x4096x4096x2, .f32⟩
  | .hbm, ⟨71, _⟩ => ⟨S6x8x2x4096x4096, .f32⟩
  | .hbm, ⟨72, _⟩ => ⟨S6x8x2x4096x4096, .f32⟩
  | .hbm, ⟨73, _⟩ => ⟨S6x8x2x4096x4096, .f32⟩
  | .hbm, ⟨74, _⟩ => ⟨S6x8x2x4096x1, .f32⟩
  | .hbm, ⟨75, _⟩ => ⟨S6x8x2x4096x4096, .f32⟩
  | .hbm, ⟨76, _⟩ => ⟨S6x8x2x4096x4096, .f32⟩
  | .hbm, ⟨77, _⟩ => ⟨S6x8x2x4096x4096, .f32⟩
  | .hbm, ⟨78, _⟩ => ⟨S6x8x2x4096x4096, .f32⟩
  | .hbm, ⟨79, _⟩ => ⟨S_, .f32⟩
  | .hbm, ⟨80, _⟩ => ⟨S6x8x2x4096x4096, .f32⟩
  | .hbm, ⟨81, _⟩ => ⟨S6x8x2x4096x4096, .f32⟩
  | .hbm, ⟨82, _⟩ => ⟨S6x8x2x4096x4096, .f32⟩
  | .hbm, ⟨83, _⟩ => ⟨S6x8x2x4096x4096, .bf16⟩
  | .hbm, ⟨84, _⟩ => ⟨S6x8x2x4096x4096, .f32⟩
  | .hbm, ⟨85, _⟩ => ⟨S6x8x2x4096x4096, .bf16⟩
  | .hbm, ⟨86, _⟩ => ⟨S6x8x2x4096x4096, .f32⟩
  | .hbm, ⟨87, _⟩ => ⟨S6x8x256x2x4096, .f32⟩
  | .hbm, ⟨88, _⟩ => ⟨S6x4096x8x2x256, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S1x1x8x1x1, .f32⟩
  | .hbm, ⟨93, _⟩ => ⟨S6x4096x8x2x256, .f32⟩
  | .hbm, ⟨94, _⟩ => ⟨S6x4096x8x2x256, .f32⟩
  | .hbm, ⟨95, _⟩ => ⟨S6x8x2x256x4096, .f32⟩
  | .hbm, ⟨96, _⟩ => ⟨S6x4096x8x2x256, .f32⟩
  | .hbm, ⟨97, _⟩ => ⟨S_, .f32⟩
  | .hbm, ⟨98, _⟩ => ⟨S8x2, .f32⟩
  | .hbm, ⟨99, _⟩ => ⟨S8x2, .f32⟩
  | .hbm, ⟨100, _⟩ => ⟨S1x1x8x2x1, .f32⟩
  | .hbm, ⟨101, _⟩ => ⟨S6x4096x8x2x256, .f32⟩
  | .hbm, ⟨102, _⟩ => ⟨S6x4096x8x2x256, .f32⟩
  | .hbm, ⟨103, _⟩ => ⟨S6x8x2x256x4096, .f32⟩
  | .hbm, ⟨104, _⟩ => ⟨S6x4096x8x2x256, .f32⟩
  | .hbm, ⟨105, _⟩ => ⟨S1x1x8x2x1, .f32⟩
  | .hbm, ⟨106, _⟩ => ⟨S6x4096x8x2x256, .f32⟩
  | .hbm, ⟨107, _⟩ => ⟨S6x4096x8x2x256, .f32⟩
  | .hbm, ⟨108, _⟩ => ⟨S6x4096x16x256, .f32⟩
  | .hbm, ⟨109, _⟩ => ⟨S6x4096x16x256, .bf16⟩
  | .hbm, ⟨110, _⟩ => ⟨S_, .f32⟩
  | .hbm, ⟨111, _⟩ => ⟨S6x4096x8x256, .f32⟩
  | .hbm, ⟨112, _⟩ => ⟨S6x4096x8x256, .bf16⟩
  | .hbm, ⟨113, _⟩ => ⟨S_, .f32⟩
  | .hbm, ⟨114, _⟩ => ⟨S6x4096x8x256, .f32⟩
  | .hbm, ⟨115, _⟩ => ⟨S6x4096x8x256, .bf16⟩
  | .local _ .vmem, ⟨0, _⟩ => ⟨S6x4096x16x256, .fp8e4m3⟩
  | .local _ .vmem, ⟨1, _⟩ => ⟨S6x4096x8x256, .fp8e4m3⟩
  | .local _ .vmem, ⟨2, _⟩ => ⟨S6x4096x8x256, .fp8e4m3⟩
  | .local _ .vmem, ⟨3, _⟩ => ⟨S6x4096x16x256, .fp8e5m2⟩
  | .local _ .vmem, ⟨4, _⟩ => ⟨S6x4096x16x256, .f32⟩
  | .local _ .vmem, ⟨5, _⟩ => ⟨S6x4096x8x256, .f32⟩
  | .local _ .vmem, ⟨6, _⟩ => ⟨S6x4096x8x256, .f32⟩
  | .local _ .vmem, ⟨7, _⟩ => ⟨S6x4096x16x256, .f32⟩
  | _, _ => ⟨S6x4096x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_2 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_5 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_6 : Ref sig .tc := ⟨.hbm, 110, rfl⟩
abbrev main_v86 : Ref sig .tc := ⟨.hbm, 111, rfl⟩
abbrev main_v87 : Ref sig .tc := ⟨.hbm, 112, rfl⟩
abbrev main_cst_7 : Ref sig .tc := ⟨.hbm, 113, rfl⟩
abbrev main_v88 : Ref sig .tc := ⟨.hbm, 114, rfl⟩
abbrev main_v89 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x4096x16x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x8x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x8x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x16x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x4096x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096x16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Loop.lean ====
/- The loop over the kv tiles of the kernel's body: one trip, and the loop's invariant. -/
module

public import proofs.«01_k».proof.Proof.Gen.Kernel.Loops
public import proofs.«01_k».proof.Proof.Gen.Kernel.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

/-- One trip's resources: the buffers the region reads at their contents, those it fills at any given contents,
    and the three work buffers every trip overwrites before it reads them. -/
abbrev Trip (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty)
    (f_arg10 : BufTy.Contents (Elt F) arg10.view.ty) (f_arg11 : BufTy.Contents (Elt F) arg11.view.ty) (f_arg12 : BufTy.Contents (Elt F) arg12.view.ty) : sProp 𝕄 :=
  iprop((arg2.view.loc (c : Thread nD τ) ↦[arg2.view.set]{fullShare} X_arg2)
    ∗ (arg3.view.loc (c : Thread nD τ) ↦[arg3.view.set]{fullShare} X_arg3)
    ∗ (arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg8.view.loc (c : Thread nD τ) ↦[arg8.view.set]{fullShare} X_arg8)
    ∗ (arg16.view.loc (c : Thread nD τ) ↦[arg16.view.set]{fullShare} X_arg16)
    ∗ (arg10.view.loc (c : Thread nD τ) ↦[arg10.view.set]{fullShare} f_arg10)
    ∗ (arg11.view.loc (c : Thread nD τ) ↦[arg11.view.set]{fullShare} f_arg11)
    ∗ (arg12.view.loc (c : Thread nD τ) ↦[arg12.view.set]{fullShare} f_arg12)
    ∗ (∃ g, (arg13.view.loc (c : Thread nD τ) ↦[arg13.view.set]{fullShare} g))
    ∗ (∃ g, (arg14.view.loc (c : Thread nD τ) ↦[arg14.view.set]{fullShare} g))
    ∗ (∃ g, (arg15.view.loc (c : Thread nD τ) ↦[arg15.view.set]{fullShare} g)))

/-- One trip of the loop over the kv tiles at a symbolic trip: the pieces it writes into the two output blocks and
    into the accumulator of the query gradient, as functions of what that accumulator holds before the trip. -/
@[irreducible] def trip (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) :
    Σ' (L_arg10 : BufTy.Contents (Elt F) arg12.view.ty → List (View.Piece (Elt F) S1x1x4096x256 .bf16)) (L_arg11 : BufTy.Contents (Elt F) arg12.view.ty → List (View.Piece (Elt F) S1x1x4096x256 .bf16)),
      { L_arg12 : BufTy.Contents (Elt F) arg12.view.ty → List (View.Piece (Elt F) S2x16x256x256 .f32) //
        ∀ (E : Set ℕ) (f_arg10 : BufTy.Contents (Elt F) arg10.view.ty) (f_arg11 : BufTy.Contents (Elt F) arg11.view.ty) (f_arg12 : BufTy.Contents (Elt F) arg12.view.ty),
          Trip c arg2 arg3 arg4 arg5 arg6 arg8 arg10 arg11 arg12 arg13 arg14 arg15 arg16 X_arg2 X_arg3 X_arg4 X_arg5 X_arg6 X_arg8 X_arg16 f_arg10 f_arg11 f_arg12
          ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k PUnit.unit)
            (fun _ => Trip c arg2 arg3 arg4 arg5 arg6 arg8 arg10 arg11 arg12 arg13 arg14 arg15 arg16 X_arg2 X_arg3 X_arg4 X_arg5 X_arg6 X_arg8 X_arg16
              (arg10.view.writes (Elt F) f_arg10 (L_arg10 f_arg12)) (arg11.view.writes (Elt F) f_arg11 (L_arg11 f_arg12)) (arg12.view.writes (Elt F) f_arg12 (L_arg12 f_arg12))) } := by
  refine ⟨?_, ?_, ?_, fun E f_arg10 f_arg11 f_arg12 => ?run⟩
  case run =>
    unfold k0_t2_body
    iintro ⟨HR_arg2, HR_arg3, HR_arg4, HR_arg5, HR_arg6, HR_arg8, HR_arg16, HW_arg10, HW_arg11, HW_arg12, ⟨%g_arg13, HS_arg13⟩, ⟨%g_arg14, HS_arg14⟩, ⟨%g_arg15, HS_arg15⟩⟩
    sl_exec
    sl_step
    sl_close

/-- What trip `k` adds to the pieces `p` the earlier trips wrote (the latest in front); past the last trip, nothing. -/
@[irreducible] def pbStep (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (k : ℕ)
    (p : List (View.Piece (Elt F) S1x1x4096x256 .bf16) × List (View.Piece (Elt F) S1x1x4096x256 .bf16) × List (View.Piece (Elt F) S2x16x256x256 .f32)) :
    List (View.Piece (Elt F) S1x1x4096x256 .bf16) × List (View.Piece (Elt F) S1x1x4096x256 .bf16) × List (View.Piece (Elt F) S2x16x256x256 .f32) :=
  if h : k < k0_t2_loop.trips then
    ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).1 (arg12.view.writes (Elt F) G_arg12 p.2.2) ++ p.1,
     (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).2.1 (arg12.view.writes (Elt F) G_arg12 p.2.2) ++ p.2.1,
     (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).2.2.1 (arg12.view.writes (Elt F) G_arg12 p.2.2) ++ p.2.2)
  else p

/-- The pieces written into the two output blocks and the query gradient's accumulator by the trips before `k`, the
    accumulator holding `G_arg12` when the loop is entered. -/
def pb (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) : ℕ →
    List (View.Piece (Elt F) S1x1x4096x256 .bf16) × List (View.Piece (Elt F) S1x1x4096x256 .bf16) × List (View.Piece (Elt F) S2x16x256x256 .f32)
  | 0 => ([], [], [])
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k (pb X_arg2 X_arg3 X_arg4 X_arg5 X_arg6 X_arg8 X_arg16 G_arg12 k)

/-- The pieces before trip `k + 1`: trip `k`'s in front of those before trip `k`. -/
theorem pb_succ (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (k : Fin k0_t2_loop.trips)
    {p : List (View.Piece (Elt F) S1x1x4096x256 .bf16) × List (View.Piece (Elt F) S1x1x4096x256 .bf16) × List (View.Piece (Elt F) S2x16x256x256 .f32)}
    (hp : pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k.val = p) :
    pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 (k.val + 1)
      = ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 (arg12.view.writes (Elt F) G_arg12 p.2.2) ++ p.1,
         (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 (arg12.view.writes (Elt F) G_arg12 p.2.2) ++ p.2.1,
         (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.1 (arg12.view.writes (Elt F) G_arg12 p.2.2) ++ p.2.2) := by
  rw [pb.eq_2, hp]; unfold pbStep; exact dif_pos k.isLt

/-- The loop's invariant: what the region reads as it was, what it fills at the contents before the loop with the
    pieces of the earlier trips over them, the three work buffers at anything. -/
abbrev inv (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg10 : BufTy.Contents (Elt F) arg10.view.ty) (G_arg11 : BufTy.Contents (Elt F) arg11.view.ty) (G_arg12 : BufTy.Contents (Elt F) arg12.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg16.view.loc (c : Thread nD τ) ↦[arg16.view.set]{fullShare} X_arg16) ∗ (∃ f, (arg10.view.loc (c : Thread nD τ) ↦[arg10.view.set]{fullShare} f) ∗ ⌜f = arg10.view.writes (Elt F) G_arg10 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).1⌝) ∗ (∃ f, (arg11.view.loc (c : Thread nD τ) ↦[arg11.view.set]{fullShare} f) ∗ ⌜f = arg11.view.writes (Elt F) G_arg11 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).2.1⌝) ∗ (∃ f, (arg12.view.loc (c : Thread nD τ) ↦[arg12.view.set]{fullShare} f) ∗ ⌜f = arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).2.2⌝) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))

set_option warn.classDefReducibility false in
/-- The loop over the kv tiles by its invariant. -/
@[sl_loop] def loopInv_k0_t2 (E : Set ℕ) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg10 : BufTy.Contents (Elt F) arg10.view.ty) (G_arg11 : BufTy.Contents (Elt F) arg11.view.ty) (G_arg12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 where
  inv := inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg10 G_arg11 G_arg12
  step k acc := by
    iintro ⟨HR_arg2, HR_arg3, HR_arg4, HR_arg5, HR_arg6, HR_arg8, HR_arg16, ⟨%f_arg10, HW_arg10, %h_arg10⟩, ⟨%f_arg11, HW_arg11, %h_arg11⟩, ⟨%f_arg12, HW_arg12, %h_arg12⟩, HS_arg13, HS_arg14, HS_arg15⟩
    iapply (wp_wand_r Idealize.ShloMosaic.frame (wpE (defs₀ (F := F)) 𝒱 (c : Thread nD τ) bd) E)
    isplitl [HR_arg2 HR_arg3 HR_arg4 HR_arg5 HR_arg6 HR_arg8 HR_arg16 HW_arg10 HW_arg11 HW_arg12 HS_arg13 HS_arg14 HS_arg15]
    · iapply ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.2 E f_arg10 f_arg11 f_arg12)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg8]; · iexact HR_arg8
      isplitl [HR_arg16]; · iexact HR_arg16
      isplitl [HW_arg10]; · iexact HW_arg10
      isplitl [HW_arg11]; · iexact HW_arg11
      isplitl [HW_arg12]; · iexact HW_arg12
      isplitl [HS_arg13]; · iexact HS_arg13
      isplitl [HS_arg14]; · iexact HS_arg14
      iexact HS_arg15
    · iintro %_ ⟨HR_arg2, HR_arg3, HR_arg4, HR_arg5, HR_arg6, HR_arg8, HR_arg16, HW_arg10, HW_arg11, HW_arg12, HS_arg13, HS_arg14, HS_arg15⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg8]; · iexact HR_arg8
      isplitl [HR_arg16]; · iexact HR_arg16
      rw [pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k rfl]
      isplitl [HW_arg10]
      · iexists _; isplitl [HW_arg10]; · iexact HW_arg10
        ipureintro; rw [View.writes_append, ← h_arg10, ← h_arg12]
      isplitl [HW_arg11]
      · iexists _; isplitl [HW_arg11]; · iexact HW_arg11
        ipureintro; rw [View.writes_append, ← h_arg11, ← h_arg12]
      isplitl [HW_arg12]
      · iexists _; isplitl [HW_arg12]; · iexact HW_arg12
        ipureintro; rw [View.writes_append, ← h_arg12]
      isplitl [HS_arg13]; · iexact HS_arg13
      isplitl [HS_arg14]; · iexact HS_arg14
      iexact HS_arg15

end Cert.Proof.Kernel
-- ==== Proof.Kernel.Pieces.lean ====
/- The pieces the loops of the kernel's body write, trip by trip. -/
module

public import proofs.«01_k».proof.Proof.Gen.Kernel.Loops
public import proofs.«01_k».proof.Proof.Gen.Kernel.Frame
public import proofs.«01_k».proof.Proof.Kernel.Loop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- An index is in a unit-stride rectangle when each coordinate lies between the offset and the offset plus the size. -/
theorem mem_unit {s : Shape} {off off' size : Fin s.rank → ℕ} {inb : ∀ a, off a + size a ≤ s.size a} (h : off = off')
    {y : s.Idx} (hy : ∀ a, off' a ≤ (y a).val ∧ (y a).val < off' a + size a) : y ∈ (Rect.unit off size inb).set := by
  subst h; exact Rect.mem_set_unit.2 hy

/-- Writes that reach every index leave the same contents whatever was there before. -/
theorem writes_eq_of_cover {sp : Space} {s : Shape} {e : EltTy} {m : Memref sig .tc sp s e} (hm : m.IsWhole)
    (f g : BufTy.Contents (Elt F) m.view.ty) (L : List (View.Piece (Elt F) s e)) (h : ∀ y, ∃ p ∈ L, y ∈ p.1.set) :
    m.view.writes (Elt F) f L = m.view.writes (Elt F) g L :=
  (hm.read_bijective (Val := Elt F)).1 (by rw [View.read_writes_eq_canon _ _ _ h, View.read_writes_eq_canon _ _ _ h])

/-- The pieces of one trip of the loop over the row blocks that fills the row sums: one row of each of the two heads. -/
theorem trip_t1_eq (arg1 : BitVec 32) (X_arg2 : BufTy.Contents (Elt F) arg2.view.ty) (X_arg6 : BufTy.Contents (Elt F) arg6.view.ty) (X_arg7 : BufTy.Contents (Elt F) arg7.view.ty) (k : Fin k0_t1_loop.trips) :
    ∃ w w', (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 k).1
      = [⟨Rect.unit (k0_off5 k) S1x1x256.size (k0_off5_inb k), w⟩, ⟨Rect.unit (k0_off3 k) S1x1x256.size (k0_off3_inb k), w'⟩] := by
  unfold trip_k0_t1; exact ⟨_, _, rfl⟩

/-- The rows the trips before `n` fill are those below `n`, of both heads. -/
theorem pb_t1_cover (arg1 : BitVec 32) (X_arg2 : BufTy.Contents (Elt F) arg2.view.ty) (X_arg6 : BufTy.Contents (Elt F) arg6.view.ty) (X_arg7 : BufTy.Contents (Elt F) arg7.view.ty)  (n : ℕ) (hn : n ≤ k0_t1_loop.trips) (y : S2x16x256.Idx) (hy : (y 1).val < n) :
    ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n, y ∈ p.1.set := by
  induction n with
  | zero => omega
  | succ m ih =>
    rw [show pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 (m + 1) = _ from
      pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 ⟨m, hn⟩]
    unfold tripL_k0_t1
    obtain ⟨w, w', e⟩ := trip_t1_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 ⟨m, hn⟩
    rw [e]
    by_cases h : (y 1).val < m
    · obtain ⟨p, hp, hyp⟩ := ih (by omega) h
      exact ⟨p, List.mem_append_right _ hp, hyp⟩
    · have hm : (y 1).val = m := by omega
      have h2 : (y 2).val < 256 := (y 2).isLt
      have h0 : (y 0).val < 2 := (y 0).isLt
      by_cases h0' : (y 0).val = 0
      · refine ⟨_, List.mem_append_left _ (List.mem_cons_of_mem _ List.mem_cons_self), mem_unit (inb := k0_off3_inb _) (k0_off3_eq _) fun a => ?_⟩
        fin_cases a
        · exact ⟨Nat.zero_le _, by show (y 0).val < 0 + 1; omega⟩
        · exact ⟨by show m ≤ (y 1).val; omega, by show (y 1).val < m + 1; omega⟩
        · exact ⟨Nat.zero_le _, by show (y 2).val < 0 + 256; omega⟩
      · refine ⟨_, List.mem_append_left _ List.mem_cons_self, mem_unit (inb := k0_off5_inb _) (k0_off5_eq _) fun a => ?_⟩
        fin_cases a
        · exact ⟨by show 1 ≤ (y 0).val; omega, by show (y 0).val < 1 + 1; omega⟩
        · exact ⟨by show m ≤ (y 1).val; omega, by show (y 1).val < m + 1; omega⟩
        · exact ⟨Nat.zero_le _, by show (y 2).val < 0 + 256; omega⟩

/-- The row sums' buffer after its loop does not depend on what was there before. -/
theorem t1_writes (arg1 : BitVec 32) (X_arg2 : BufTy.Contents (Elt F) arg2.view.ty) (X_arg6 : BufTy.Contents (Elt F) arg6.view.ty) (X_arg7 : BufTy.Contents (Elt F) arg7.view.ty)  (g : BufTy.Contents (Elt F) arg16.view.ty) (n : ℕ) (hn : n = k0_t1_loop.trips) :
    arg16.view.writes (Elt F) g (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n)
      = arg16.view.writes (Elt F) arg16.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n) :=
  writes_eq_of_cover harg16 _ _ _ fun y => pb_t1_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n hn.le y
    (lt_of_lt_of_eq (y 1).isLt ((show (16 : ℕ) = k0_t1_loop.trips by decide +kernel).trans hn.symm))

/-- The pieces of one trip of the last loop: one row block of each of the two heads. -/
theorem trip_t7_eq (X_arg2 : BufTy.Contents (Elt F) arg2.view.ty) (X_arg12 : BufTy.Contents (Elt F) arg12.view.ty) (k : Fin k0_t7_loop.trips) :
    ∃ w w', (trip_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 k).1
      = [⟨Rect.unit (k0_off35 k) S1x1x256x256.size (k0_off35_inb k), w⟩, ⟨Rect.unit (k0_off33 k) S1x1x256x256.size (k0_off33_inb k), w'⟩] := by
  unfold trip_k0_t7; exact ⟨_, _, rfl⟩

/-- The rows the trips before `n` of the last loop fill are those of the row blocks below `n`, of both heads. -/
theorem pb_t7_cover (X_arg2 : BufTy.Contents (Elt F) arg2.view.ty) (X_arg12 : BufTy.Contents (Elt F) arg12.view.ty)  (n : ℕ) (hn : n ≤ k0_t7_loop.trips) (y : S1x2x4096x256.Idx) (hy : (y 2).val < 256 * n) :
    ∃ p ∈ pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 n, y ∈ p.1.set := by
  induction n with
  | zero => omega
  | succ m ih =>
    rw [show pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 (m + 1) = _ from
      pb_k0_t7_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 ⟨m, hn⟩]
    unfold tripL_k0_t7
    obtain ⟨w, w', e⟩ := trip_t7_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 ⟨m, hn⟩
    rw [e]
    by_cases h : (y 2).val < 256 * m
    · obtain ⟨p, hp, hyp⟩ := ih (by omega) h
      exact ⟨p, List.mem_append_right _ hp, hyp⟩
    · have h3 : (y 3).val < 256 := (y 3).isLt
      have h0 : (y 0).val < 1 := (y 0).isLt
      have h1 : (y 1).val < 2 := (y 1).isLt
      by_cases h1' : (y 1).val = 0
      · refine ⟨_, List.mem_append_left _ (List.mem_cons_of_mem _ List.mem_cons_self), mem_unit (inb := k0_off33_inb _) (k0_off33_eq _) fun a => ?_⟩
        fin_cases a
        · exact ⟨Nat.zero_le _, by show (y 0).val < 0 + 1; omega⟩
        · exact ⟨Nat.zero_le _, by show (y 1).val < 0 + 1; omega⟩
        · exact ⟨by show 256 * m ≤ (y 2).val; omega, by show (y 2).val < 256 * m + 256; omega⟩
        · exact ⟨Nat.zero_le _, by show (y 3).val < 0 + 256; omega⟩
      · refine ⟨_, List.mem_append_left _ List.mem_cons_self, mem_unit (inb := k0_off35_inb _) (k0_off35_eq _) fun a => ?_⟩
        fin_cases a
        · exact ⟨Nat.zero_le _, by show (y 0).val < 0 + 1; omega⟩
        · exact ⟨by show 1 ≤ (y 1).val; omega, by show (y 1).val < 1 + 1; omega⟩
        · exact ⟨by show 256 * m ≤ (y 2).val; omega, by show (y 2).val < 256 * m + 256; omega⟩
        · exact ⟨Nat.zero_le _, by show (y 3).val < 0 + 256; omega⟩

variable (arg1 : BitVec 32) (v0 : IVec S256x256 32) (v1 : IVec S256x256 32)

/-- The piece one trip of the loop over the kv tiles writes into the key gradient's block: the tile's rows. -/
theorem trip_eq10 (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) (f : BufTy.Contents (Elt F) arg12.view.ty) :
    ∃ w, (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 f = [⟨Rect.unit (s := S1x1x4096x256) (k0_off6 k) S1x1x256x256.size (k0_off6_inb k), w⟩] := by
  unfold trip; exact ⟨_, rfl⟩

/-- The piece one trip of the loop over the kv tiles writes into the value gradient's block: the tile's rows. -/
theorem trip_eq11 (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) (f : BufTy.Contents (Elt F) arg12.view.ty) :
    ∃ w, (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 f = [⟨Rect.unit (s := S1x1x4096x256) (k0_off6 k) S1x1x256x256.size (k0_off6_inb k), w⟩] := by
  unfold trip; exact ⟨_, rfl⟩

/-- An index of the tile at rows `256 * k` is in the rectangle a trip writes. -/
theorem mem_off6 (k : Fin k0_t2_loop.trips) (y : S1x1x4096x256.Idx) (h : 256 * k.val ≤ (y 2).val) (h' : (y 2).val < 256 * (k.val + 1)) :
    y ∈ (Rect.unit (s := S1x1x4096x256) (k0_off6 k) S1x1x256x256.size (k0_off6_inb k)).set := by
  have h3 : (y 3).val < 256 := (y 3).isLt
  have h0 : (y 0).val < 1 := (y 0).isLt
  have h1 : (y 1).val < 1 := (y 1).isLt
  refine mem_unit (inb := k0_off6_inb _) (k0_off6_eq _) fun a => ?_
  fin_cases a
  · exact ⟨Nat.zero_le _, by show (y 0).val < 0 + 1; omega⟩
  · exact ⟨Nat.zero_le _, by show (y 1).val < 0 + 1; omega⟩
  · exact ⟨by show 256 * k.val ≤ (y 2).val; omega, by show (y 2).val < 256 * k.val + 256; omega⟩
  · exact ⟨Nat.zero_le _, by show (y 3).val < 0 + 256; omega⟩

/-- The rows the trips before `n` of the loop over the kv tiles fill, in both gradients' blocks, are those of the tiles
    below `n`. -/
theorem pb_cover (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (n : ℕ) (hn : n ≤ k0_t2_loop.trips) (y : S1x1x4096x256.Idx) (hy : (y 2).val < 256 * n) :
    (∃ p ∈ (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 n).1, y ∈ p.1.set) ∧ ∃ p ∈ (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 n).2.1, y ∈ p.1.set := by
  induction n with
  | zero => omega
  | succ m ih =>
    rw [show pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 (m + 1) = _ from pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 ⟨m, hn⟩ rfl]
    dsimp only
    obtain ⟨w, e⟩ := trip_eq10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨m, hn⟩ (arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 m).2.2)
    obtain ⟨w', e'⟩ := trip_eq11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨m, hn⟩ (arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 m).2.2)
    rw [e, e']
    by_cases h : (y 2).val < 256 * m
    · obtain ⟨⟨p, hp, hyp⟩, q, hq, hyq⟩ := ih (by omega) h
      exact ⟨⟨p, List.mem_append_right _ hp, hyp⟩, q, List.mem_append_right _ hq, hyq⟩
    · have hy' := mem_off6 ⟨m, hn⟩ y (by show 256 * m ≤ (y 2).val; omega) hy
      exact ⟨⟨_, List.mem_append_left _ List.mem_cons_self, hy'⟩, _, List.mem_append_left _ List.mem_cons_self, hy'⟩

end Cert.Proof.Kernel
-- ==== Proof.Kernel.Body.lean ====
/- The kernel's body, run once over any grid point. -/
module

public import proofs.«01_k».proof.Proof.Gen.Kernel.Loops
public import proofs.«01_k».proof.Proof.Gen.Kernel.Frame
public import proofs.«01_k».proof.Proof.Kernel.Loop
public import proofs.«01_k».proof.Proof.Kernel.Pieces

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- The body's resources: the inputs' blocks at their contents, the outputs' at any given contents, the work buffers
    at anything. -/
abbrev Held (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (f_arg9 : BufTy.Contents (Elt F) arg9.view.ty) (f_arg10 : BufTy.Contents (Elt F) arg10.view.ty) (f_arg11 : BufTy.Contents (Elt F) arg11.view.ty) : sProp 𝕄 :=
  iprop((arg2.view.loc (c : Thread nD τ) ↦[arg2.view.set]{fullShare} X_arg2)
    ∗ (arg3.view.loc (c : Thread nD τ) ↦[arg3.view.set]{fullShare} X_arg3)
    ∗ (arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg7.view.loc (c : Thread nD τ) ↦[arg7.view.set]{fullShare} X_arg7)
    ∗ (arg8.view.loc (c : Thread nD τ) ↦[arg8.view.set]{fullShare} X_arg8)
    ∗ (arg9.view.loc (c : Thread nD τ) ↦[arg9.view.set]{fullShare} f_arg9)
    ∗ (arg10.view.loc (c : Thread nD τ) ↦[arg10.view.set]{fullShare} f_arg10)
    ∗ (arg11.view.loc (c : Thread nD τ) ↦[arg11.view.set]{fullShare} f_arg11)
    ∗ (∃ g, (arg12.view.loc (c : Thread nD τ) ↦[arg12.view.set]{fullShare} g))
    ∗ (∃ g, (arg13.view.loc (c : Thread nD τ) ↦[arg13.view.set]{fullShare} g))
    ∗ (∃ g, (arg14.view.loc (c : Thread nD τ) ↦[arg14.view.set]{fullShare} g))
    ∗ (∃ g, (arg15.view.loc (c : Thread nD τ) ↦[arg15.view.set]{fullShare} g))
    ∗ (∃ g, (arg16.view.loc (c : Thread nD τ) ↦[arg16.view.set]{fullShare} g)))

/-- The kernel's body at any grid point: the pieces it writes into the three output blocks, as functions of the
    inputs' contents. -/
@[irreducible] def run (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    Σ' (L_arg9 : List (View.Piece (Elt F) S1x2x4096x256 .bf16)) (L_arg10 : List (View.Piece (Elt F) S1x1x4096x256 .bf16)),
      { L_arg11 : List (View.Piece (Elt F) S1x1x4096x256 .bf16) //
        ∀ (E : Set ℕ) (f_arg9 : BufTy.Contents (Elt F) arg9.view.ty) (f_arg10 : BufTy.Contents (Elt F) arg10.view.ty) (f_arg11 : BufTy.Contents (Elt F) arg11.view.ty),
          Held c arg2 arg3 arg4 arg5 arg6 arg7 arg8 arg9 arg10 arg11 arg12 arg13 arg14 arg15 arg16 X_arg2 X_arg3 X_arg4 X_arg5 X_arg6 X_arg7 X_arg8 f_arg9 f_arg10 f_arg11
          ⊢ wp frame (wpE (defs₀ (F := F)) 𝒱 (c : Thread nD τ) bd) E (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => Held c arg2 arg3 arg4 arg5 arg6 arg7 arg8 arg9 arg10 arg11 arg12 arg13 arg14 arg15 arg16 X_arg2 X_arg3 X_arg4 X_arg5 X_arg6 X_arg7 X_arg8
              (arg9.view.writes (Elt F) f_arg9 L_arg9) (arg10.view.writes (Elt F) f_arg10 L_arg10) (arg11.view.writes (Elt F) f_arg11 L_arg11)) } := by
  refine ⟨?_, ?_, ?_, fun E f_arg9 f_arg10 f_arg11 => ?run⟩
  case run =>
    simp only [cc0_swa_bwd_eq_skeleton]; unfold cc0_swa_bwd_skel
    iintro ⟨HR_arg2, HR_arg3, HR_arg4, HR_arg5, HR_arg6, HR_arg7, HR_arg8, HW_arg9, HW_arg10, HW_arg11, ⟨%g_arg12, HS_arg12⟩, ⟨%g_arg13, HS_arg13⟩, ⟨%g_arg14, HS_arg14⟩, ⟨%g_arg15, HS_arg15⟩, ⟨%g_arg16, HS_arg16⟩⟩
    sl_exec
    sl_step
    rw [t1_writes 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ X_arg2 X_arg6 X_arg7 g_arg16 _ rfl]
    sl_close

/-- The row sums' buffer as its loop leaves it. -/
abbrev sums (X_arg2 : BufTy.Contents (Elt F) arg2.view.ty) (X_arg6 : BufTy.Contents (Elt F) arg6.view.ty) (X_arg7 : BufTy.Contents (Elt F) arg7.view.ty) : BufTy.Contents (Elt F) arg16.view.ty :=
  arg16.view.writes (Elt F) arg16.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg6 X_arg7 k0_t1_loop.trips)

/-- The pieces of the three output blocks, by the loops that write them: the query gradient's from the accumulator the
    loop over the kv tiles leaves, the key's and the value's from that loop itself. -/
theorem run_eq (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    ∃ (v0 v1 : IVec S256x256 32) (G : BufTy.Contents (Elt F) arg12.view.ty) (X : BufTy.Contents (Elt F) arg12.view.ty),
      (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1 = pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X k0_t7_loop.trips
      ∧ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1
        = (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v0 v1 X_arg2 X_arg3 X_arg4 X_arg5 X_arg6 X_arg8 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) G k0_t2_loop.trips).1
      ∧ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1
        = (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v0 v1 X_arg2 X_arg3 X_arg4 X_arg5 X_arg6 X_arg8 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) G k0_t2_loop.trips).2.1 := by
  unfold run; exact ⟨_, _, _, _, rfl, rfl, rfl⟩

/-- The pieces reach every index of the three output blocks. -/
theorem run_cover (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    (∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1, y ∈ p.1.set)
      ∧ (∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1, y ∈ p.1.set)
      ∧ ∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1, y ∈ p.1.set := by
  obtain ⟨v0, v1, G, X, e9, e10, e11⟩ := run_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8
  have h7 : 16 = k0_t7_loop.trips := by decide +kernel
  have h2 : 16 = k0_t2_loop.trips := by decide +kernel
  refine ⟨fun y => ?_, fun y => ?_, fun y => ?_⟩
  · rw [e9]
    exact pb_t7_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 _ _ le_rfl y (lt_of_lt_of_eq (y 2).isLt (congrArg (256 * ·) h7))
  · rw [e10]
    exact (pb_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X_arg2 X_arg3 X_arg4 X_arg5 X_arg6 X_arg8 _ _ _ le_rfl y (lt_of_lt_of_eq (y 2).isLt (congrArg (256 * ·) h2))).1
  · rw [e11]
    exact (pb_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X_arg2 X_arg3 X_arg4 X_arg5 X_arg6 X_arg8 _ _ _ le_rfl y (lt_of_lt_of_eq (y 2).isLt (congrArg (256 * ·) h2))).2

end Cert.Proof.Kernel
-- ==== Proof.Kernel.Run.lean ====
/- The kernel's frame: what each grid point leaves in the output blocks, and the run of the whole program. -/
module

public import proofs.«01_k».proof.Proof.Gen.Kernel.Loops
public import proofs.«01_k».proof.Proof.Gen.Kernel.Frame
public import proofs.«01_k».proof.Proof.Kernel.Loop
public import proofs.«01_k».proof.Proof.Kernel.Body
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Kernel

variable (c : Dev nD) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- What the body leaves in the query gradient's block, from what the inputs' blocks hold. -/
def out9 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x2x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).1

/-- What the body leaves in the key gradient's block, from what the inputs' blocks hold. -/
def out10 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x1x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.1

/-- What the body leaves in the value gradient's block, from what the inputs' blocks hold. -/
def out11 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x1x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.2.1

set_option maxHeartbeats 1000000 in
/-- The body on whole buffers, the inputs' at known contents and the outputs' and the work buffers at anything, runs to
    the continuation holding the inputs' as they were and the outputs' at `out9`, `out10`, `out11` of them. -/
theorem sound_kernel (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ owns (c : Thread nD τ) arg10 fullShare (out10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ owns (c : Thread nD τ) arg11 fullShare (out11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  iapply (wp_wand_r Idealize.ShloMosaic.frame (wpE (defs₀ (F := F)) Variants.none (c : Thread nD τ) none) Set.univ)
  isplitl [H2 H3 H4 H5 H6 H7 H8 H9 H10 H11 H12 H13 H14 H15 H16]
  · iapply ((run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.2.2 Set.univ f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16
  · iintro %_ ⟨H2, H3, H4, H5, H6, H7, H8, H9, H10, H11, ⟨%g12, H12⟩, ⟨%g13, H13⟩, ⟨%g14, H14⟩, ⟨%g15, H15⟩, ⟨%g16, H16⟩⟩
    iapply Hk
    obtain ⟨h9, h10, h11⟩ := run_cover Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)
    isplitl [H2]
    · iexists _; isplitr
      swap; · iexact H2
      ipureintro; exact harg2.read_unread _
    isplitl [H3]
    · iexists _; isplitr
      swap; · iexact H3
      ipureintro; exact harg3.read_unread _
    isplitl [H4]
    · iexists _; isplitr
      swap; · iexact H4
      ipureintro; exact harg4.read_unread _
    isplitl [H5]
    · iexists _; isplitr
      swap; · iexact H5
      ipureintro; exact harg5.read_unread _
    isplitl [H6]
    · iexists _; isplitr
      swap; · iexact H6
      ipureintro; exact harg6.read_unread _
    isplitl [H7]
    · iexists _; isplitr
      swap; · iexact H7
      ipureintro; exact harg7.read_unread _
    isplitl [H8]
    · iexists _; isplitr
      swap; · iexact H8
      ipureintro; exact harg8.read_unread _
    isplitl [H9]
    · iexists _; isplitr
      swap; · iexact H9
      ipureintro; exact View.read_writes_eq_canon _ _ _ h9
    isplitl [H10]
    · iexists _; isplitr
      swap; · iexact H10
      ipureintro; exact View.read_writes_eq_canon _ _ _ h10
    isplitl [H11]
    · iexists _; isplitr
      swap; · iexact H11
      ipureintro; exact View.read_writes_eq_canon _ _ _ h11
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl

end Kernel

variable (m : (ℓ : Loc nD τ sig) → Buf (Elt F) ℓ) (ρ : Dev nD → PrngReg)

/-- Output window 7's block after point `t`. -/
def blk9 (c : Dev nD) (t : Fin cfg0.N) : Vec F S1x2x4096x256 .bf16 :=
  out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- Output window 8's block after point `t`. -/
def blk10 (c : Dev nD) (t : Fin cfg0.N) : Vec F S1x1x4096x256 .bf16 :=
  out10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- Output window 9's block after point `t`. -/
def blk11 (c : Dev nD) (t : Fin cfg0.N) : Vec F S1x1x4096x256 .bf16 :=
  out11 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- The proof data of the one pipeline on core `c`: the arrays as the region finds them, each input's buffer left at its
    block and each output's at what the body leaves, the work buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk9 m c t
    | ⟨8, _⟩ => blk10 m c t
    | ⟨9, _⟩ => blk11 m c t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- Input window 0 after a point holds its block. -/
theorem after0_0 (c : Dev nD) (t : Fin cfg0.N) : (dats m 0 c).after 0 t = iblk m c 0 t := by dsimp only [dats]
/-- Input window 1 after a point holds its block. -/
theorem after0_1 (c : Dev nD) (t : Fin cfg0.N) : (dats m 0 c).after 1 t = iblk m c 1 t := by dsimp only [dats]
/-- Input window 2 after a point holds its block. -/
theorem after0_2 (c : Dev nD) (t : Fin cfg0.N) : (dats m 0 c).after 2 t = iblk m c 2 t := by dsimp only [dats]
/-- Input window 3 after a point holds its block. -/
theorem after0_3 (c : Dev nD) (t : Fin cfg0.N) : (dats m 0 c).after 3 t = iblk m c 3 t := by dsimp only [dats]
/-- Input window 4 after a point holds its block. -/
theorem after0_4 (c : Dev nD) (t : Fin cfg0.N) : (dats m 0 c).after 4 t = iblk m c 4 t := by dsimp only [dats]
/-- Input window 5 after a point holds its block. -/
theorem after0_5 (c : Dev nD) (t : Fin cfg0.N) : (dats m 0 c).after 5 t = iblk m c 5 t := by dsimp only [dats]
/-- Input window 6 after a point holds its block. -/
theorem after0_6 (c : Dev nD) (t : Fin cfg0.N) : (dats m 0 c).after 6 t = iblk m c 6 t := by dsimp only [dats]
/-- Output window 7 after a point holds what the body leaves. -/
theorem after0_7 (c : Dev nD) (t : Fin cfg0.N) : (dats m 0 c).after 7 t = blk9 m c t := by dsimp only [dats]
/-- Output window 8 after a point holds what the body leaves. -/
theorem after0_8 (c : Dev nD) (t : Fin cfg0.N) : (dats m 0 c).after 8 t = blk10 m c t := by dsimp only [dats]
/-- Output window 9 after a point holds what the body leaves. -/
theorem after0_9 (c : Dev nD) (t : Fin cfg0.N) : (dats m 0 c).after 9 t = blk11 m c t := by dsimp only [dats]
/-- Input window 0 before a point holds its block. -/
theorem before0_0 (c : Dev nD) (t : Fin cfg0.N) (d) : (dats m 0 c).before 0 t d = iblk m c 0 t :=
  before0_0_of m (dats m 0 c) (A_eq m c 0) (after0_0 m c) t d
/-- Input window 1 before a point holds its block. -/
theorem before0_1 (c : Dev nD) (t : Fin cfg0.N) (d) : (dats m 0 c).before 1 t d = iblk m c 1 t :=
  before0_1_of m (dats m 0 c) (A_eq m c 1) (after0_1 m c) t d
/-- Input window 2 before a point holds its block. -/
theorem before0_2 (c : Dev nD) (t : Fin cfg0.N) (d) : (dats m 0 c).before 2 t d = iblk m c 2 t :=
  before0_2_of m (dats m 0 c) (A_eq m c 2) (after0_2 m c) t d
/-- Input window 3 before a point holds its block. -/
theorem before0_3 (c : Dev nD) (t : Fin cfg0.N) (d) : (dats m 0 c).before 3 t d = iblk m c 3 t :=
  before0_3_of m (dats m 0 c) (A_eq m c 3) (after0_3 m c) t d
/-- Input window 4 before a point holds its block. -/
theorem before0_4 (c : Dev nD) (t : Fin cfg0.N) (d) : (dats m 0 c).before 4 t d = iblk m c 4 t :=
  before0_4_of m (dats m 0 c) (A_eq m c 4) (after0_4 m c) t d
/-- Input window 5 before a point holds its block. -/
theorem before0_5 (c : Dev nD) (t : Fin cfg0.N) (d) : (dats m 0 c).before 5 t d = iblk m c 5 t :=
  before0_5_of m (dats m 0 c) (A_eq m c 5) (after0_5 m c) t d
/-- Input window 6 before a point holds its block. -/
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The invariant between points: the five work buffers at anything, and the generator register. -/
theorem phi_eq (c : Dev nD) :
    (Pipeline.ΦA (Val := Elt F) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]
  simp only [owns_whole]; try rfl

set_option maxHeartbeats 1000000 in
/-- The body at any point: the inputs' buffers hold their blocks, so `sound_kernel` applies, with the work buffers lent by
    the invariant and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, phi_eq,
    after0_0, after0_1, after0_2, after0_3, after0_4, after0_5, after0_6, after0_7, after0_8, after0_9]
  iintro ⟨⟨⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hr]
  · isplitl [HS0 HS1 HS2 HS3 HS4]
    · isplitl [HS0]; · iexact HS0
      isplitl [HS1]; · iexact HS1
      isplitl [HS2]; · iexact HS2
      isplitl [HS3]; · iexact HS3
      iexact HS4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim, over any values: the program ends, its argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proof.Kernel
-- ==== Proof.KernelIdeal.Loop.lean ====
/- The loop over the kv tiles of the kernel's body: one trip, and the loop's invariant. -/
module

public import proofs.«01_k».proof.Proof.Gen.KernelIdeal.Loops
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

/-- One trip's resources: the buffers the region reads at their contents, those it fills at any given contents,
    and the three work buffers every trip overwrites before it reads them. -/
abbrev Trip (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty)
    (f_arg10 : BufTy.Contents (Elt F) arg10.view.ty) (f_arg11 : BufTy.Contents (Elt F) arg11.view.ty) (f_arg12 : BufTy.Contents (Elt F) arg12.view.ty) : sProp 𝕄 :=
  iprop((arg2.view.loc (c : Thread nD τ) ↦[arg2.view.set]{fullShare} X_arg2)
    ∗ (arg3.view.loc (c : Thread nD τ) ↦[arg3.view.set]{fullShare} X_arg3)
    ∗ (arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg8.view.loc (c : Thread nD τ) ↦[arg8.view.set]{fullShare} X_arg8)
    ∗ (arg16.view.loc (c : Thread nD τ) ↦[arg16.view.set]{fullShare} X_arg16)
    ∗ (arg10.view.loc (c : Thread nD τ) ↦[arg10.view.set]{fullShare} f_arg10)
    ∗ (arg11.view.loc (c : Thread nD τ) ↦[arg11.view.set]{fullShare} f_arg11)
    ∗ (arg12.view.loc (c : Thread nD τ) ↦[arg12.view.set]{fullShare} f_arg12)
    ∗ (∃ g, (arg13.view.loc (c : Thread nD τ) ↦[arg13.view.set]{fullShare} g))
    ∗ (∃ g, (arg14.view.loc (c : Thread nD τ) ↦[arg14.view.set]{fullShare} g))
    ∗ (∃ g, (arg15.view.loc (c : Thread nD τ) ↦[arg15.view.set]{fullShare} g)))

/-- One trip of the loop over the kv tiles at a symbolic trip: the pieces it writes into the two output blocks and
    into the accumulator of the query gradient, as functions of what that accumulator holds before the trip. -/
@[irreducible] def trip (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) :
    Σ' (L_arg10 : BufTy.Contents (Elt F) arg12.view.ty → List (View.Piece (Elt F) S1x1x4096x256 .bf16)) (L_arg11 : BufTy.Contents (Elt F) arg12.view.ty → List (View.Piece (Elt F) S1x1x4096x256 .bf16)),
      { L_arg12 : BufTy.Contents (Elt F) arg12.view.ty → List (View.Piece (Elt F) S2x16x256x256 .f32) //
        ∀ (E : Set ℕ) (f_arg10 : BufTy.Contents (Elt F) arg10.view.ty) (f_arg11 : BufTy.Contents (Elt F) arg11.view.ty) (f_arg12 : BufTy.Contents (Elt F) arg12.view.ty),
          Trip c arg2 arg3 arg4 arg5 arg6 arg8 arg10 arg11 arg12 arg13 arg14 arg15 arg16 X_arg2 X_arg3 X_arg4 X_arg5 X_arg6 X_arg8 X_arg16 f_arg10 f_arg11 f_arg12
          ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k PUnit.unit)
            (fun _ => Trip c arg2 arg3 arg4 arg5 arg6 arg8 arg10 arg11 arg12 arg13 arg14 arg15 arg16 X_arg2 X_arg3 X_arg4 X_arg5 X_arg6 X_arg8 X_arg16
              (arg10.view.writes (Elt F) f_arg10 (L_arg10 f_arg12)) (arg11.view.writes (Elt F) f_arg11 (L_arg11 f_arg12)) (arg12.view.writes (Elt F) f_arg12 (L_arg12 f_arg12))) } := by
  refine ⟨?_, ?_, ?_, fun E f_arg10 f_arg11 f_arg12 => ?run⟩
  case run =>
    unfold k0_t2_body
    iintro ⟨HR_arg2, HR_arg3, HR_arg4, HR_arg5, HR_arg6, HR_arg8, HR_arg16, HW_arg10, HW_arg11, HW_arg12, ⟨%g_arg13, HS_arg13⟩, ⟨%g_arg14, HS_arg14⟩, ⟨%g_arg15, HS_arg15⟩⟩
    sl_exec
    sl_step
    sl_close

/-- What trip `k` adds to the pieces `p` the earlier trips wrote (the latest in front); past the last trip, nothing. -/
@[irreducible] def pbStep (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (k : ℕ)
    (p : List (View.Piece (Elt F) S1x1x4096x256 .bf16) × List (View.Piece (Elt F) S1x1x4096x256 .bf16) × List (View.Piece (Elt F) S2x16x256x256 .f32)) :
    List (View.Piece (Elt F) S1x1x4096x256 .bf16) × List (View.Piece (Elt F) S1x1x4096x256 .bf16) × List (View.Piece (Elt F) S2x16x256x256 .f32) :=
  if h : k < k0_t2_loop.trips then
    ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).1 (arg12.view.writes (Elt F) G_arg12 p.2.2) ++ p.1,
     (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).2.1 (arg12.view.writes (Elt F) G_arg12 p.2.2) ++ p.2.1,
     (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨k, h⟩).2.2.1 (arg12.view.writes (Elt F) G_arg12 p.2.2) ++ p.2.2)
  else p

/-- The pieces written into the two output blocks and the query gradient's accumulator by the trips before `k`, the
    accumulator holding `G_arg12` when the loop is entered. -/
def pb (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) : ℕ →
    List (View.Piece (Elt F) S1x1x4096x256 .bf16) × List (View.Piece (Elt F) S1x1x4096x256 .bf16) × List (View.Piece (Elt F) S2x16x256x256 .f32)
  | 0 => ([], [], [])
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k (pb X_arg2 X_arg3 X_arg4 X_arg5 X_arg6 X_arg8 X_arg16 G_arg12 k)

/-- The pieces before trip `k + 1`: trip `k`'s in front of those before trip `k`. -/
theorem pb_succ (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (k : Fin k0_t2_loop.trips)
    {p : List (View.Piece (Elt F) S1x1x4096x256 .bf16) × List (View.Piece (Elt F) S1x1x4096x256 .bf16) × List (View.Piece (Elt F) S2x16x256x256 .f32)}
    (hp : pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k.val = p) :
    pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 (k.val + 1)
      = ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 (arg12.view.writes (Elt F) G_arg12 p.2.2) ++ p.1,
         (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 (arg12.view.writes (Elt F) G_arg12 p.2.2) ++ p.2.1,
         (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.1 (arg12.view.writes (Elt F) G_arg12 p.2.2) ++ p.2.2) := by
  rw [pb.eq_2, hp]; unfold pbStep; exact dif_pos k.isLt

/-- The loop's invariant: what the region reads as it was, what it fills at the contents before the loop with the
    pieces of the earlier trips over them, the three work buffers at anything. -/
abbrev inv (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg10 : BufTy.Contents (Elt F) arg10.view.ty) (G_arg11 : BufTy.Contents (Elt F) arg11.view.ty) (G_arg12 : BufTy.Contents (Elt F) arg12.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg16.view.loc (c : Thread nD τ) ↦[arg16.view.set]{fullShare} X_arg16) ∗ (∃ f, (arg10.view.loc (c : Thread nD τ) ↦[arg10.view.set]{fullShare} f) ∗ ⌜f = arg10.view.writes (Elt F) G_arg10 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).1⌝) ∗ (∃ f, (arg11.view.loc (c : Thread nD τ) ↦[arg11.view.set]{fullShare} f) ∗ ⌜f = arg11.view.writes (Elt F) G_arg11 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).2.1⌝) ∗ (∃ f, (arg12.view.loc (c : Thread nD τ) ↦[arg12.view.set]{fullShare} f) ∗ ⌜f = arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k).2.2⌝) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))

set_option warn.classDefReducibility false in
/-- The loop over the kv tiles by its invariant. -/
@[sl_loop] def loopInv_k0_t2 (E : Set ℕ) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg10 : BufTy.Contents (Elt F) arg10.view.ty) (G_arg11 : BufTy.Contents (Elt F) arg11.view.ty) (G_arg12 : BufTy.Contents (Elt F) arg12.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 where
  inv := inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg10 G_arg11 G_arg12
  step k acc := by
    iintro ⟨HR_arg2, HR_arg3, HR_arg4, HR_arg5, HR_arg6, HR_arg8, HR_arg16, ⟨%f_arg10, HW_arg10, %h_arg10⟩, ⟨%f_arg11, HW_arg11, %h_arg11⟩, ⟨%f_arg12, HW_arg12, %h_arg12⟩, HS_arg13, HS_arg14, HS_arg15⟩
    iapply (wp_wand_r Idealize.ShloMosaic.frame (wpE (defs₀ (F := F)) 𝒱 (c : Thread nD τ) bd) E)
    isplitl [HR_arg2 HR_arg3 HR_arg4 HR_arg5 HR_arg6 HR_arg8 HR_arg16 HW_arg10 HW_arg11 HW_arg12 HS_arg13 HS_arg14 HS_arg15]
    · iapply ((trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.2 E f_arg10 f_arg11 f_arg12)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg8]; · iexact HR_arg8
      isplitl [HR_arg16]; · iexact HR_arg16
      isplitl [HW_arg10]; · iexact HW_arg10
      isplitl [HW_arg11]; · iexact HW_arg11
      isplitl [HW_arg12]; · iexact HW_arg12
      isplitl [HS_arg13]; · iexact HS_arg13
      isplitl [HS_arg14]; · iexact HS_arg14
      iexact HS_arg15
    · iintro %_ ⟨HR_arg2, HR_arg3, HR_arg4, HR_arg5, HR_arg6, HR_arg8, HR_arg16, HW_arg10, HW_arg11, HW_arg12, HS_arg13, HS_arg14, HS_arg15⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg8]; · iexact HR_arg8
      isplitl [HR_arg16]; · iexact HR_arg16
      rw [pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 k rfl]
      isplitl [HW_arg10]
      · iexists _; isplitl [HW_arg10]; · iexact HW_arg10
        ipureintro; rw [View.writes_append, ← h_arg10, ← h_arg12]
      isplitl [HW_arg11]
      · iexists _; isplitl [HW_arg11]; · iexact HW_arg11
        ipureintro; rw [View.writes_append, ← h_arg11, ← h_arg12]
      isplitl [HW_arg12]
      · iexists _; isplitl [HW_arg12]; · iexact HW_arg12
        ipureintro; rw [View.writes_append, ← h_arg12]
      isplitl [HS_arg13]; · iexact HS_arg13
      isplitl [HS_arg14]; · iexact HS_arg14
      iexact HS_arg15

end Cert.Proof.KernelIdeal
-- ==== Proof.KernelIdeal.Pieces.lean ====
/- The pieces the loops of the kernel's body write, trip by trip. -/
module

public import proofs.«01_k».proof.Proof.Gen.KernelIdeal.Loops
public import proofs.«01_k».proof.Proof.Gen.KernelIdeal.Frame
public import proofs.«01_k».proof.Proof.KernelIdeal.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- An index is in a unit-stride rectangle when each coordinate lies between the offset and the offset plus the size. -/
theorem mem_unit {s : Shape} {off off' size : Fin s.rank → ℕ} {inb : ∀ a, off a + size a ≤ s.size a} (h : off = off')
    {y : s.Idx} (hy : ∀ a, off' a ≤ (y a).val ∧ (y a).val < off' a + size a) : y ∈ (Rect.unit off size inb).set := by
  subst h; exact Rect.mem_set_unit.2 hy

/-- Writes that reach every index leave the same contents whatever was there before. -/
theorem writes_eq_of_cover {sp : Space} {s : Shape} {e : EltTy} {m : Memref sig .tc sp s e} (hm : m.IsWhole)
    (f g : BufTy.Contents (Elt F) m.view.ty) (L : List (View.Piece (Elt F) s e)) (h : ∀ y, ∃ p ∈ L, y ∈ p.1.set) :
    m.view.writes (Elt F) f L = m.view.writes (Elt F) g L :=
  (hm.read_bijective (Val := Elt F)).1 (by rw [View.read_writes_eq_canon _ _ _ h, View.read_writes_eq_canon _ _ _ h])

/-- The pieces of one trip of the loop over the row blocks that fills the row sums: one row of each of the two heads. -/
theorem trip_t1_eq (arg1 : BitVec 32) (X_arg2 : BufTy.Contents (Elt F) arg2.view.ty) (X_arg6 : BufTy.Contents (Elt F) arg6.view.ty) (X_arg7 : BufTy.Contents (Elt F) arg7.view.ty) (k : Fin k0_t1_loop.trips) :
    ∃ w w', (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 k).1
      = [⟨Rect.unit (k0_off5 k) S1x1x256.size (k0_off5_inb k), w⟩, ⟨Rect.unit (k0_off3 k) S1x1x256.size (k0_off3_inb k), w'⟩] := by
  unfold trip_k0_t1; exact ⟨_, _, rfl⟩

/-- The rows the trips before `n` fill are those below `n`, of both heads. -/
theorem pb_t1_cover (arg1 : BitVec 32) (X_arg2 : BufTy.Contents (Elt F) arg2.view.ty) (X_arg6 : BufTy.Contents (Elt F) arg6.view.ty) (X_arg7 : BufTy.Contents (Elt F) arg7.view.ty)  (n : ℕ) (hn : n ≤ k0_t1_loop.trips) (y : S2x16x256.Idx) (hy : (y 1).val < n) :
    ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n, y ∈ p.1.set := by
  induction n with
  | zero => omega
  | succ m ih =>
    rw [show pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 (m + 1) = _ from
      pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 ⟨m, hn⟩]
    unfold tripL_k0_t1
    obtain ⟨w, w', e⟩ := trip_t1_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 ⟨m, hn⟩
    rw [e]
    by_cases h : (y 1).val < m
    · obtain ⟨p, hp, hyp⟩ := ih (by omega) h
      exact ⟨p, List.mem_append_right _ hp, hyp⟩
    · have hm : (y 1).val = m := by omega
      have h2 : (y 2).val < 256 := (y 2).isLt
      have h0 : (y 0).val < 2 := (y 0).isLt
      by_cases h0' : (y 0).val = 0
      · refine ⟨_, List.mem_append_left _ (List.mem_cons_of_mem _ List.mem_cons_self), mem_unit (inb := k0_off3_inb _) (k0_off3_eq _) fun a => ?_⟩
        fin_cases a
        · exact ⟨Nat.zero_le _, by show (y 0).val < 0 + 1; omega⟩
        · exact ⟨by show m ≤ (y 1).val; omega, by show (y 1).val < m + 1; omega⟩
        · exact ⟨Nat.zero_le _, by show (y 2).val < 0 + 256; omega⟩
      · refine ⟨_, List.mem_append_left _ List.mem_cons_self, mem_unit (inb := k0_off5_inb _) (k0_off5_eq _) fun a => ?_⟩
        fin_cases a
        · exact ⟨by show 1 ≤ (y 0).val; omega, by show (y 0).val < 1 + 1; omega⟩
        · exact ⟨by show m ≤ (y 1).val; omega, by show (y 1).val < m + 1; omega⟩
        · exact ⟨Nat.zero_le _, by show (y 2).val < 0 + 256; omega⟩

/-- The row sums' buffer after its loop does not depend on what was there before. -/
theorem t1_writes (arg1 : BitVec 32) (X_arg2 : BufTy.Contents (Elt F) arg2.view.ty) (X_arg6 : BufTy.Contents (Elt F) arg6.view.ty) (X_arg7 : BufTy.Contents (Elt F) arg7.view.ty)  (g : BufTy.Contents (Elt F) arg16.view.ty) (n : ℕ) (hn : n = k0_t1_loop.trips) :
    arg16.view.writes (Elt F) g (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n)
      = arg16.view.writes (Elt F) arg16.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n) :=
  writes_eq_of_cover harg16 _ _ _ fun y => pb_t1_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n hn.le y
    (lt_of_lt_of_eq (y 1).isLt ((show (16 : ℕ) = k0_t1_loop.trips by decide +kernel).trans hn.symm))

/-- The pieces of one trip of the last loop: one row block of each of the two heads. -/
theorem trip_t7_eq (X_arg2 : BufTy.Contents (Elt F) arg2.view.ty) (X_arg12 : BufTy.Contents (Elt F) arg12.view.ty) (k : Fin k0_t7_loop.trips) :
    ∃ w w', (trip_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 k).1
      = [⟨Rect.unit (k0_off35 k) S1x1x256x256.size (k0_off35_inb k), w⟩, ⟨Rect.unit (k0_off33 k) S1x1x256x256.size (k0_off33_inb k), w'⟩] := by
  unfold trip_k0_t7; exact ⟨_, _, rfl⟩

/-- The rows the trips before `n` of the last loop fill are those of the row blocks below `n`, of both heads. -/
theorem pb_t7_cover (X_arg2 : BufTy.Contents (Elt F) arg2.view.ty) (X_arg12 : BufTy.Contents (Elt F) arg12.view.ty)  (n : ℕ) (hn : n ≤ k0_t7_loop.trips) (y : S1x2x4096x256.Idx) (hy : (y 2).val < 256 * n) :
    ∃ p ∈ pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 n, y ∈ p.1.set := by
  induction n with
  | zero => omega
  | succ m ih =>
    rw [show pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 (m + 1) = _ from
      pb_k0_t7_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 ⟨m, hn⟩]
    unfold tripL_k0_t7
    obtain ⟨w, w', e⟩ := trip_t7_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 ⟨m, hn⟩
    rw [e]
    by_cases h : (y 2).val < 256 * m
    · obtain ⟨p, hp, hyp⟩ := ih (by omega) h
      exact ⟨p, List.mem_append_right _ hp, hyp⟩
    · have h3 : (y 3).val < 256 := (y 3).isLt
      have h0 : (y 0).val < 1 := (y 0).isLt
      have h1 : (y 1).val < 2 := (y 1).isLt
      by_cases h1' : (y 1).val = 0
      · refine ⟨_, List.mem_append_left _ (List.mem_cons_of_mem _ List.mem_cons_self), mem_unit (inb := k0_off33_inb _) (k0_off33_eq _) fun a => ?_⟩
        fin_cases a
        · exact ⟨Nat.zero_le _, by show (y 0).val < 0 + 1; omega⟩
        · exact ⟨Nat.zero_le _, by show (y 1).val < 0 + 1; omega⟩
        · exact ⟨by show 256 * m ≤ (y 2).val; omega, by show (y 2).val < 256 * m + 256; omega⟩
        · exact ⟨Nat.zero_le _, by show (y 3).val < 0 + 256; omega⟩
      · refine ⟨_, List.mem_append_left _ List.mem_cons_self, mem_unit (inb := k0_off35_inb _) (k0_off35_eq _) fun a => ?_⟩
        fin_cases a
        · exact ⟨Nat.zero_le _, by show (y 0).val < 0 + 1; omega⟩
        · exact ⟨by show 1 ≤ (y 1).val; omega, by show (y 1).val < 1 + 1; omega⟩
        · exact ⟨by show 256 * m ≤ (y 2).val; omega, by show (y 2).val < 256 * m + 256; omega⟩
        · exact ⟨Nat.zero_le _, by show (y 3).val < 0 + 256; omega⟩

variable (arg1 : BitVec 32) (v0 : IVec S256x256 32) (v1 : IVec S256x256 32)

/-- The piece one trip of the loop over the kv tiles writes into the key gradient's block: the tile's rows. -/
theorem trip_eq10 (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) (f : BufTy.Contents (Elt F) arg12.view.ty) :
    ∃ w, (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 f = [⟨Rect.unit (s := S1x1x4096x256) (k0_off6 k) S1x1x256x256.size (k0_off6_inb k), w⟩] := by
  unfold trip; exact ⟨_, rfl⟩

/-- The piece one trip of the loop over the kv tiles writes into the value gradient's block: the tile's rows. -/
theorem trip_eq11 (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (k : Fin k0_t2_loop.trips) (f : BufTy.Contents (Elt F) arg12.view.ty) :
    ∃ w, (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 f = [⟨Rect.unit (s := S1x1x4096x256) (k0_off6 k) S1x1x256x256.size (k0_off6_inb k), w⟩] := by
  unfold trip; exact ⟨_, rfl⟩

/-- An index of the tile at rows `256 * k` is in the rectangle a trip writes. -/
theorem mem_off6 (k : Fin k0_t2_loop.trips) (y : S1x1x4096x256.Idx) (h : 256 * k.val ≤ (y 2).val) (h' : (y 2).val < 256 * (k.val + 1)) :
    y ∈ (Rect.unit (s := S1x1x4096x256) (k0_off6 k) S1x1x256x256.size (k0_off6_inb k)).set := by
  have h3 : (y 3).val < 256 := (y 3).isLt
  have h0 : (y 0).val < 1 := (y 0).isLt
  have h1 : (y 1).val < 1 := (y 1).isLt
  refine mem_unit (inb := k0_off6_inb _) (k0_off6_eq _) fun a => ?_
  fin_cases a
  · exact ⟨Nat.zero_le _, by show (y 0).val < 0 + 1; omega⟩
  · exact ⟨Nat.zero_le _, by show (y 1).val < 0 + 1; omega⟩
  · exact ⟨by show 256 * k.val ≤ (y 2).val; omega, by show (y 2).val < 256 * k.val + 256; omega⟩
  · exact ⟨Nat.zero_le _, by show (y 3).val < 0 + 256; omega⟩

/-- The rows the trips before `n` of the loop over the kv tiles fill, in both gradients' blocks, are those of the tiles
    below `n`. -/
theorem pb_cover (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg16 : BufTy.Contents (Elt F) arg16.view.ty) (G_arg12 : BufTy.Contents (Elt F) arg12.view.ty) (n : ℕ) (hn : n ≤ k0_t2_loop.trips) (y : S1x1x4096x256.Idx) (hy : (y 2).val < 256 * n) :
    (∃ p ∈ (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 n).1, y ∈ p.1.set) ∧ ∃ p ∈ (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 n).2.1, y ∈ p.1.set := by
  induction n with
  | zero => omega
  | succ m ih =>
    rw [show pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 (m + 1) = _ from pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 ⟨m, hn⟩ rfl]
    dsimp only
    obtain ⟨w, e⟩ := trip_eq10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨m, hn⟩ (arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 m).2.2)
    obtain ⟨w', e'⟩ := trip_eq11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 ⟨m, hn⟩ (arg12.view.writes (Elt F) G_arg12 (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G_arg12 m).2.2)
    rw [e, e']
    by_cases h : (y 2).val < 256 * m
    · obtain ⟨⟨p, hp, hyp⟩, q, hq, hyq⟩ := ih (by omega) h
      exact ⟨⟨p, List.mem_append_right _ hp, hyp⟩, q, List.mem_append_right _ hq, hyq⟩
    · have hy' := mem_off6 ⟨m, hn⟩ y (by show 256 * m ≤ (y 2).val; omega) hy
      exact ⟨⟨_, List.mem_append_left _ List.mem_cons_self, hy'⟩, _, List.mem_append_left _ List.mem_cons_self, hy'⟩

end Cert.Proof.KernelIdeal
-- ==== Proof.KernelIdeal.Body.lean ====
/- The kernel's body, run once over any grid point. -/
module

public import proofs.«01_k».proof.Proof.Gen.KernelIdeal.Loops
public import proofs.«01_k».proof.Proof.Gen.KernelIdeal.Frame
public import proofs.«01_k».proof.Proof.KernelIdeal.Loop
public import proofs.«01_k».proof.Proof.KernelIdeal.Pieces

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- The body's resources: the inputs' blocks at their contents, the outputs' at any given contents, the work buffers
    at anything. -/
abbrev Held (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (f_arg9 : BufTy.Contents (Elt F) arg9.view.ty) (f_arg10 : BufTy.Contents (Elt F) arg10.view.ty) (f_arg11 : BufTy.Contents (Elt F) arg11.view.ty) : sProp 𝕄 :=
  iprop((arg2.view.loc (c : Thread nD τ) ↦[arg2.view.set]{fullShare} X_arg2)
    ∗ (arg3.view.loc (c : Thread nD τ) ↦[arg3.view.set]{fullShare} X_arg3)
    ∗ (arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg7.view.loc (c : Thread nD τ) ↦[arg7.view.set]{fullShare} X_arg7)
    ∗ (arg8.view.loc (c : Thread nD τ) ↦[arg8.view.set]{fullShare} X_arg8)
    ∗ (arg9.view.loc (c : Thread nD τ) ↦[arg9.view.set]{fullShare} f_arg9)
    ∗ (arg10.view.loc (c : Thread nD τ) ↦[arg10.view.set]{fullShare} f_arg10)
    ∗ (arg11.view.loc (c : Thread nD τ) ↦[arg11.view.set]{fullShare} f_arg11)
    ∗ (∃ g, (arg12.view.loc (c : Thread nD τ) ↦[arg12.view.set]{fullShare} g))
    ∗ (∃ g, (arg13.view.loc (c : Thread nD τ) ↦[arg13.view.set]{fullShare} g))
    ∗ (∃ g, (arg14.view.loc (c : Thread nD τ) ↦[arg14.view.set]{fullShare} g))
    ∗ (∃ g, (arg15.view.loc (c : Thread nD τ) ↦[arg15.view.set]{fullShare} g))
    ∗ (∃ g, (arg16.view.loc (c : Thread nD τ) ↦[arg16.view.set]{fullShare} g)))

/-- The kernel's body at any grid point: the pieces it writes into the three output blocks, as functions of the
    inputs' contents. -/
@[irreducible] def run (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    Σ' (L_arg9 : List (View.Piece (Elt F) S1x2x4096x256 .bf16)) (L_arg10 : List (View.Piece (Elt F) S1x1x4096x256 .bf16)),
      { L_arg11 : List (View.Piece (Elt F) S1x1x4096x256 .bf16) //
        ∀ (E : Set ℕ) (f_arg9 : BufTy.Contents (Elt F) arg9.view.ty) (f_arg10 : BufTy.Contents (Elt F) arg10.view.ty) (f_arg11 : BufTy.Contents (Elt F) arg11.view.ty),
          Held c arg2 arg3 arg4 arg5 arg6 arg7 arg8 arg9 arg10 arg11 arg12 arg13 arg14 arg15 arg16 X_arg2 X_arg3 X_arg4 X_arg5 X_arg6 X_arg7 X_arg8 f_arg9 f_arg10 f_arg11
          ⊢ wp frame (wpE (defs₀ (F := F)) 𝒱 (c : Thread nD τ) bd) E (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => Held c arg2 arg3 arg4 arg5 arg6 arg7 arg8 arg9 arg10 arg11 arg12 arg13 arg14 arg15 arg16 X_arg2 X_arg3 X_arg4 X_arg5 X_arg6 X_arg7 X_arg8
              (arg9.view.writes (Elt F) f_arg9 L_arg9) (arg10.view.writes (Elt F) f_arg10 L_arg10) (arg11.view.writes (Elt F) f_arg11 L_arg11)) } := by
  refine ⟨?_, ?_, ?_, fun E f_arg9 f_arg10 f_arg11 => ?run⟩
  case run =>
    simp only [cc0_swa_bwd_eq_skeleton]; unfold cc0_swa_bwd_skel
    iintro ⟨HR_arg2, HR_arg3, HR_arg4, HR_arg5, HR_arg6, HR_arg7, HR_arg8, HW_arg9, HW_arg10, HW_arg11, ⟨%g_arg12, HS_arg12⟩, ⟨%g_arg13, HS_arg13⟩, ⟨%g_arg14, HS_arg14⟩, ⟨%g_arg15, HS_arg15⟩, ⟨%g_arg16, HS_arg16⟩⟩
    sl_exec
    sl_step
    rw [t1_writes 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ X_arg2 X_arg6 X_arg7 g_arg16 _ rfl]
    sl_close

/-- The row sums' buffer as its loop leaves it. -/
abbrev sums (X_arg2 : BufTy.Contents (Elt F) arg2.view.ty) (X_arg6 : BufTy.Contents (Elt F) arg6.view.ty) (X_arg7 : BufTy.Contents (Elt F) arg7.view.ty) : BufTy.Contents (Elt F) arg16.view.ty :=
  arg16.view.writes (Elt F) arg16.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg6 X_arg7 k0_t1_loop.trips)

/-- The pieces of the three output blocks, by the loops that write them: the query gradient's from the accumulator the
    loop over the kv tiles leaves, the key's and the value's from that loop itself. -/
theorem run_eq (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    ∃ (v0 v1 : IVec S256x256 32) (G : BufTy.Contents (Elt F) arg12.view.ty) (X : BufTy.Contents (Elt F) arg12.view.ty),
      (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1 = pb_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X k0_t7_loop.trips
      ∧ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1
        = (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v0 v1 X_arg2 X_arg3 X_arg4 X_arg5 X_arg6 X_arg8 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) G k0_t2_loop.trips).1
      ∧ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1
        = (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v0 v1 X_arg2 X_arg3 X_arg4 X_arg5 X_arg6 X_arg8 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) G k0_t2_loop.trips).2.1 := by
  unfold run; exact ⟨_, _, _, _, rfl, rfl, rfl⟩

/-- The pieces reach every index of the three output blocks. -/
theorem run_cover (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) :
    (∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1, y ∈ p.1.set)
      ∧ (∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1, y ∈ p.1.set)
      ∧ ∀ y, ∃ p ∈ (run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1, y ∈ p.1.set := by
  obtain ⟨v0, v1, G, X, e9, e10, e11⟩ := run_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8
  have h7 : 16 = k0_t7_loop.trips := by decide +kernel
  have h2 : 16 = k0_t2_loop.trips := by decide +kernel
  refine ⟨fun y => ?_, fun y => ?_, fun y => ?_⟩
  · rw [e9]
    exact pb_t7_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 _ _ le_rfl y (lt_of_lt_of_eq (y 2).isLt (congrArg (256 * ·) h7))
  · rw [e10]
    exact (pb_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X_arg2 X_arg3 X_arg4 X_arg5 X_arg6 X_arg8 _ _ _ le_rfl y (lt_of_lt_of_eq (y 2).isLt (congrArg (256 * ·) h2))).1
  · rw [e11]
    exact (pb_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ X_arg2 X_arg3 X_arg4 X_arg5 X_arg6 X_arg8 _ _ _ le_rfl y (lt_of_lt_of_eq (y 2).isLt (congrArg (256 * ·) h2))).2

end Cert.Proof.KernelIdeal
-- ==== Proof.KernelIdeal.Run.lean ====
/- The kernel's frame: what each grid point leaves in the output blocks, and the run of the whole program. -/
module

public import proofs.«01_k».proof.Proof.Gen.KernelIdeal.Loops
public import proofs.«01_k».proof.Proof.Gen.KernelIdeal.Frame
public import proofs.«01_k».proof.Proof.KernelIdeal.Loop
public import proofs.«01_k».proof.Proof.KernelIdeal.Body
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Kernel

variable (c : Dev nD) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)

/-- What the body leaves in the query gradient's block, from what the inputs' blocks hold. -/
def out9 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x2x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).1

/-- What the body leaves in the key gradient's block, from what the inputs' blocks hold. -/
def out10 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x1x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.1

/-- What the body leaves in the value gradient's block, from what the inputs' blocks hold. -/
def out11 (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) : Vec F S1x1x4096x256 .bf16 :=
  View.canon (run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.2.1

set_option maxHeartbeats 1000000 in
/-- The body on whole buffers, the inputs' at known contents and the outputs' and the work buffers at anything, runs to
    the continuation holding the inputs' as they were and the outputs' at `out9`, `out10`, `out11` of them. -/
theorem sound_kernel (x2 : Vec F S4x16 .f32) (x3 : Vec F S1x2x4096x256 .fp8e4m3) (x4 : Vec F S1x1x4096x256 .fp8e4m3) (x5 : Vec F S1x1x4096x256 .fp8e4m3) (x6 : Vec F S1x2x4096x256 .fp8e5m2) (x7 : Vec F S1x2x4096x256 .bf16) (x8 : Vec F S1x2x16x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ owns (c : Thread nD τ) arg10 fullShare (out10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ owns (c : Thread nD τ) arg11 fullShare (out11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  iapply (wp_wand_r Idealize.ShloMosaic.frame (wpE (defs₀ (F := F)) Variants.none (c : Thread nD τ) none) Set.univ)
  isplitl [H2 H3 H4 H5 H6 H7 H8 H9 H10 H11 H12 H13 H14 H15 H16]
  · iapply ((run Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.2.2 Set.univ f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16
  · iintro %_ ⟨H2, H3, H4, H5, H6, H7, H8, H9, H10, H11, ⟨%g12, H12⟩, ⟨%g13, H13⟩, ⟨%g14, H14⟩, ⟨%g15, H15⟩, ⟨%g16, H16⟩⟩
    iapply Hk
    obtain ⟨h9, h10, h11⟩ := run_cover Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)
    isplitl [H2]
    · iexists _; isplitr
      swap; · iexact H2
      ipureintro; exact harg2.read_unread _
    isplitl [H3]
    · iexists _; isplitr
      swap; · iexact H3
      ipureintro; exact harg3.read_unread _
    isplitl [H4]
    · iexists _; isplitr
      swap; · iexact H4
      ipureintro; exact harg4.read_unread _
    isplitl [H5]
    · iexists _; isplitr
      swap; · iexact H5
      ipureintro; exact harg5.read_unread _
    isplitl [H6]
    · iexists _; isplitr
      swap; · iexact H6
      ipureintro; exact harg6.read_unread _
    isplitl [H7]
    · iexists _; isplitr
      swap; · iexact H7
      ipureintro; exact harg7.read_unread _
    isplitl [H8]
    · iexists _; isplitr
      swap; · iexact H8
      ipureintro; exact harg8.read_unread _
    isplitl [H9]
    · iexists _; isplitr
      swap; · iexact H9
      ipureintro; exact View.read_writes_eq_canon _ _ _ h9
    isplitl [H10]
    · iexists _; isplitr
      swap; · iexact H10
      ipureintro; exact View.read_writes_eq_canon _ _ _ h10
    isplitl [H11]
    · iexists _; isplitr
      swap; · iexact H11
      ipureintro; exact View.read_writes_eq_canon _ _ _ h11
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl

end Kernel

variable (m : (ℓ : Loc nD τ sig) → Buf (Elt F) ℓ) (ρ : Dev nD → PrngReg)

/-- Output window 7's block after point `t`. -/
def blk9 (c : Dev nD) (t : Fin cfg0.N) : Vec F S1x2x4096x256 .bf16 :=
  out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- Output window 8's block after point `t`. -/
def blk10 (c : Dev nD) (t : Fin cfg0.N) : Vec F S1x1x4096x256 .bf16 :=
  out10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- Output window 9's block after point `t`. -/
def blk11 (c : Dev nD) (t : Fin cfg0.N) : Vec F S1x1x4096x256 .bf16 :=
  out11 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- The proof data of the one pipeline on core `c`: the arrays as the region finds them, each input's buffer left at its
    block and each output's at what the body leaves, the work buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk9 m c t
    | ⟨8, _⟩ => blk10 m c t
    | ⟨9, _⟩ => blk11 m c t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- Input window 0 after a point holds its block. -/
theorem after0_0 (c : Dev nD) (t : Fin cfg0.N) : (dats m 0 c).after 0 t = iblk m c 0 t := by dsimp only [dats]
/-- Input window 1 after a point holds its block. -/
theorem after0_1 (c : Dev nD) (t : Fin cfg0.N) : (dats m 0 c).after 1 t = iblk m c 1 t := by dsimp only [dats]
/-- Input window 2 after a point holds its block. -/
theorem after0_2 (c : Dev nD) (t : Fin cfg0.N) : (dats m 0 c).after 2 t = iblk m c 2 t := by dsimp only [dats]
/-- Input window 3 after a point holds its block. -/
theorem after0_3 (c : Dev nD) (t : Fin cfg0.N) : (dats m 0 c).after 3 t = iblk m c 3 t := by dsimp only [dats]
/-- Input window 4 after a point holds its block. -/
theorem after0_4 (c : Dev nD) (t : Fin cfg0.N) : (dats m 0 c).after 4 t = iblk m c 4 t := by dsimp only [dats]
/-- Input window 5 after a point holds its block. -/
theorem after0_5 (c : Dev nD) (t : Fin cfg0.N) : (dats m 0 c).after 5 t = iblk m c 5 t := by dsimp only [dats]
/-- Input window 6 after a point holds its block. -/
theorem after0_6 (c : Dev nD) (t : Fin cfg0.N) : (dats m 0 c).after 6 t = iblk m c 6 t := by dsimp only [dats]
/-- Output window 7 after a point holds what the body leaves. -/
theorem after0_7 (c : Dev nD) (t : Fin cfg0.N) : (dats m 0 c).after 7 t = blk9 m c t := by dsimp only [dats]
/-- Output window 8 after a point holds what the body leaves. -/
theorem after0_8 (c : Dev nD) (t : Fin cfg0.N) : (dats m 0 c).after 8 t = blk10 m c t := by dsimp only [dats]
/-- Output window 9 after a point holds what the body leaves. -/
theorem after0_9 (c : Dev nD) (t : Fin cfg0.N) : (dats m 0 c).after 9 t = blk11 m c t := by dsimp only [dats]
/-- Input window 0 before a point holds its block. -/
theorem before0_0 (c : Dev nD) (t : Fin cfg0.N) (d) : (dats m 0 c).before 0 t d = iblk m c 0 t :=
  before0_0_of m (dats m 0 c) (A_eq m c 0) (after0_0 m c) t d
/-- Input window 1 before a point holds its block. -/
theorem before0_1 (c : Dev nD) (t : Fin cfg0.N) (d) : (dats m 0 c).before 1 t d = iblk m c 1 t :=
  before0_1_of m (dats m 0 c) (A_eq m c 1) (after0_1 m c) t d
/-- Input window 2 before a point holds its block. -/
theorem before0_2 (c : Dev nD) (t : Fin cfg0.N) (d) : (dats m 0 c).before 2 t d = iblk m c 2 t :=
  before0_2_of m (dats m 0 c) (A_eq m c 2) (after0_2 m c) t d
/-- Input window 3 before a point holds its block. -/
theorem before0_3 (c : Dev nD) (t : Fin cfg0.N) (d) : (dats m 0 c).before 3 t d = iblk m c 3 t :=
  before0_3_of m (dats m 0 c) (A_eq m c 3) (after0_3 m c) t d
/-- Input window 4 before a point holds its block. -/
theorem before0_4 (c : Dev nD) (t : Fin cfg0.N) (d) : (dats m 0 c).before 4 t d = iblk m c 4 t :=
  before0_4_of m (dats m 0 c) (A_eq m c 4) (after0_4 m c) t d
/-- Input window 5 before a point holds its block. -/
theorem before0_5 (c : Dev nD) (t : Fin cfg0.N) (d) : (dats m 0 c).before 5 t d = iblk m c 5 t :=
  before0_5_of m (dats m 0 c) (A_eq m c 5) (after0_5 m c) t d
/-- Input window 6 before a point holds its block. -/
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The invariant between points: the five work buffers at anything, and the generator register. -/
theorem phi_eq (c : Dev nD) :
    (Pipeline.ΦA (Val := Elt F) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]
  simp only [owns_whole]; try rfl

set_option maxHeartbeats 1000000 in
/-- The body at any point: the inputs' buffers hold their blocks, so `sound_kernel` applies, with the work buffers lent by
    the invariant and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, phi_eq,
    after0_0, after0_1, after0_2, after0_3, after0_4, after0_5, after0_6, after0_7, after0_8, after0_9]
  iintro ⟨⟨⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hr]
  · isplitl [HS0 HS1 HS2 HS3 HS4]
    · isplitl [HS0]; · iexact HS0
      isplitl [HS1]; · iexact HS1
      isplitl [HS2]; · iexact HS2
      isplitl [HS3]; · iexact HS3
      iexact HS4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim, over any values: the program ends, its argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proof.KernelIdeal
-- ==== Proof.KernelIdeal.Tile.lean ====
/- One pair of tiles of the kernel's body, at exact arithmetic: the entries of the two score-shaped tiles. -/
module

public import proofs.«01_k».proof.Proof.Gen.KernelIdeal.Skeleton
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

/-- The tile of probabilities that one q tile and one kv tile make, rows over the keys and columns over the queries: the
    soft-capped scores less the queries' log-sum-exps, exponentiated where the position difference `diff` lies in the window. -/
def pT (diff : IVec S256x256 32) (cs : EReal) (q k : FVec Ideal S1x1x256x256 .fp8e4m3) (l : FVec Ideal S1x1x1x256 .f32) :
    FVec Ideal S256x256 .f32 :=
  k0_pay17 (F := Ideal) (k0_pay13 cs q k l) diff (cmpi .sge diff (broadcast S256x256 0#32)) k0_pay16

/-- The tile of the scores' gradients, laid out like `pT`. -/
def dsT (diff : IVec S256x256 32) (cs cdp : EReal) (q k v : FVec Ideal S1x1x256x256 .fp8e4m3) (d : FVec Ideal S1x1x256x256 .fp8e5m2)
    (l : FVec Ideal S1x1x1x256 .f32) (dl : FVec Ideal S1x1x256 .f32) : FVec Ideal S256x256 .bf16 :=
  k0_pay18 (F := Ideal) cdp (k0_pay9 d) (k0_pay11 v) (k0_pay12 cs q k) (k0_pay13 cs q k l) diff
    (cmpi .sge diff (broadcast S256x256 0#32)) k0_pay16 dl

/-- The constant `1 / log 2`. -/
def c1 : EReal := ((Real.log 2)⁻¹ : ℝ)

/-- The constant `5 / log 2`. -/
def c5 : EReal := ((5 * (Real.log 2)⁻¹ : ℝ) : EReal)

/-- The named word stands for `1 / log 2`. -/
theorem named_c1 : Named.named (F := Ideal) (φ := .f32) κ "inv_log_2" 1069066811#32 = c1 :=
  IdealRules.named_const.ideal_named_scalar _ _ _ _ rfl

/-- The named word stands for `5 / log 2`. -/
theorem named_c5 : Named.named (F := Ideal) (φ := .f32) κ "softcap_inv_log_2" 1088869578#32 = c5 :=
  IdealRules.named_const.ideal_named_scalar _ _ _ _ rfl

/-- The position differences of kv tile `j`'s rows and q tile `j + n`'s columns. -/
def diffT (n : ℕ) : IVec S256x256 32 := fun y => BitVec.ofNat 32 (y 1).val - BitVec.ofNat 32 (y 0).val + BitVec.ofNat 32 (256 * n)

/-- The window's test on the position differences, as words and as numbers. -/
theorem select_diff (n : ℕ) (hn : n ≤ 16) (a x : Fin 256) (u : EReal) :
    Scalar.select (IntOp.andi (IntOp.cmpi .sge (diffT n (ix2 a x)) 0#32) (IntOp.cmpi .slt (diffT n (ix2 a x)) 2048#32)) u 0
      = if a.val ≤ 256 * n + x.val ∧ 256 * n + x.val < a.val + 2048 then u else 0 := by
  have ha := a.isLt
  have hx := x.isLt
  have e : (diffT n (ix2 a x)).toInt = (x.val : ℤ) - a.val + 256 * n := by
    show (BitVec.ofNat 32 x.val - BitVec.ofNat 32 a.val + BitVec.ofNat 32 (256 * n)).toInt = _
    rw [BitVec.toInt_eq_toNat_cond]
    simp only [BitVec.toNat_add, BitVec.toNat_sub, BitVec.toNat_ofNat]
    split <;> omega
  unfold Scalar.select
  simp only [IntOp.cmpi, IntOp.andi, BitVec.sle, BitVec.slt, e]
  have z : (0#32).toInt = 0 := rfl
  have z' : (2048#32).toInt = 2048 := rfl
  rw [z, z']
  by_cases h1 : (0 : ℤ) ≤ x.val - a.val + 256 * n <;> by_cases h2 : (x.val : ℤ) - a.val + 256 * n < 2048
  · rw [decide_eq_true h1, decide_eq_true h2, if_pos (by decide), if_pos ⟨by omega, by omega⟩]
  · rw [decide_eq_true h1, decide_eq_false h2, if_neg (by decide), if_neg (by omega)]
  · rw [decide_eq_false h1, decide_eq_true h2, if_neg (by decide), if_neg (by omega)]
  · rw [decide_eq_false h1, decide_eq_false h2, if_neg (by decide), if_neg (by omega)]

/-- An entry of the probabilities' tile. -/
theorem pT_apply (n : ℕ) (hn : n ≤ 16) (cs : EReal) (q k : FVec Ideal S1x1x256x256 .fp8e4m3) (l : FVec Ideal S1x1x1x256 .f32)
    (a x : Fin 256) : pT (diffT n) cs q k l (ix2 a x)
      = if a.val ≤ 256 * n + x.val ∧ 256 * n + x.val < a.val + 2048 then
          Ideal.exp2 (Ideal.tanh ((∑ d : Fin 256, k (ix4 0 0 a d) * q (ix4 0 0 x d)) * cs) * c5 - l (ix4 0 0 0 x) * c1) else 0 := by
  rw [← select_diff n hn a x]
  pointwise [pT, k0_pay17, k0_pay13, k0_pay12, k0_pay16, k0_pay8, named_c1, named_c5]
  rfl

/-- The tile of the scores' gradients, at an index. -/
theorem dsT_apply (n : ℕ) (hn : n ≤ 16) (cs cdp : EReal) (q k v : FVec Ideal S1x1x256x256 .fp8e4m3) (d : FVec Ideal S1x1x256x256 .fp8e5m2)
    (l : FVec Ideal S1x1x1x256 .f32) (dl : FVec Ideal S1x1x256 .f32)
    (a x : Fin 256) : dsT (diffT n) cs cdp q k v d l dl (ix2 a x)
      = pT (diffT n) cs q k l (ix2 a x)
        * ((∑ e : Fin 256, v (ix4 0 0 a e) * d (ix4 0 0 x e)) * cdp - dl (ix3 0 0 x))
        * (1 - Ideal.tanh ((∑ e : Fin 256, k (ix4 0 0 a e) * q (ix4 0 0 x e)) * cs) * Ideal.tanh ((∑ e : Fin 256, k (ix4 0 0 a e) * q (ix4 0 0 x e)) * cs)) := by
  pointwise [dsT, pT, k0_pay18, k0_pay17, k0_pay13, k0_pay12, k0_pay16, k0_pay8, k0_pay9, k0_pay11]

/-- The query gradient's tile (features by queries) with one pair of tiles' part added: the keys, transposed, times `dsT`. -/
def up12 (old : FVec Ideal S1x1x256x256 .f32) (kt ds : FVec Ideal S256x256 .bf16) : FVec Ideal S1x1x256x256 .f32 :=
  k0_pay75 (F := Ideal) (k0_pay21 old) (matmul dot_S256x256_S256x256_S256x256_1_0_0_1_n_n none kt ds (constant S256x256 .f32 0x00000000#32))

/-- The key gradient's tile with one pair of tiles' part added: `dsT` times the queries. -/
def up14 (old : FVec Ideal S256x256 .f32) (q : FVec Ideal S1x1x256x256 .fp8e4m3) (ds : FVec Ideal S256x256 .bf16) : FVec Ideal S256x256 .f32 :=
  shapeCast S256x256 (addf old (matmul dot_S256x256_S256x256_S256x256_1_0_0_1_n_n none ds (extf .bf16 (k0_pay8 (F := Ideal) q) bitsLt_fp8e4m3_bf16)
    (constant S256x256 .f32 0x00000000#32))) shapeCasts_S256x256_S256x256

/-- The value gradient's tile with one pair of tiles' part added: `pT` times the output's gradients. -/
def up15 (old : FVec Ideal S256x256 .f32) (d : FVec Ideal S1x1x256x256 .fp8e5m2) (p : FVec Ideal S256x256 .f32) : FVec Ideal S256x256 .f32 :=
  shapeCast S256x256 (addf old (matmul dot_S256x256_S256x256_S256x256_1_0_0_1_n_n none (truncf .bf16 p bitsLt_bf16_f32) (k0_pay10 (F := Ideal) d)
    (constant S256x256 .f32 0x00000000#32))) shapeCasts_S256x256_S256x256

/-- One update of the query gradient's accumulator, at an index. -/
theorem up12_apply (old : FVec Ideal S1x1x256x256 .f32) (kt ds : FVec Ideal S256x256 .bf16) (d x : Fin 256) :
    up12 old kt ds (ix4 0 0 d x) = old (ix4 0 0 d x) + ∑ a : Fin 256, kt (ix2 d a) * ds (ix2 a x) := by
  pointwise [up12, k0_pay75, k0_pay21]

/-- One update of the key gradient's accumulator, at an index. -/
theorem up14_apply (old : FVec Ideal S256x256 .f32) (q : FVec Ideal S1x1x256x256 .fp8e4m3) (ds : FVec Ideal S256x256 .bf16) (a d : Fin 256) :
    up14 old q ds (ix2 a d) = old (ix2 a d) + ∑ x : Fin 256, ds (ix2 a x) * q (ix4 0 0 x d) := by
  pointwise [up14, k0_pay8]

/-- One update of the value gradient's accumulator, at an index. -/
theorem up15_apply (old : FVec Ideal S256x256 .f32) (d : FVec Ideal S1x1x256x256 .fp8e5m2) (p : FVec Ideal S256x256 .f32) (a e : Fin 256) :
    up15 old d p (ix2 a e) = old (ix2 a e) + ∑ x : Fin 256, p (ix2 a x) * d (ix4 0 0 x e) := by
  pointwise [up15, k0_pay10, k0_pay9]

end Cert.Proof.KernelIdeal
-- ==== Proof.KernelIdeal.Off.lean ====
/- The offsets and trip counts of the kernel's loops in closed form. -/
module

public import proofs.«01_k».proof.Proof.Gen.KernelIdeal.Skeleton

@[expose] public section

set_option maxRecDepth 16384

namespace Cert.Proof.KernelIdeal

open Cert.KernelIdeal Cert.KernelIdeal.Gen
open Idealize.ShloMosaic

/-- The loop over the kv tiles makes 16 trips. -/
theorem t2_trips : k0_t2_loop.trips = 16 := by decide +kernel

/-- The loop over the q tiles of kv tile `j`, at either head: nine trips, or as many as there are tiles from `j` on. -/
theorem t35_trips : ∀ j : Fin k0_t2_loop.trips, (k0_t3_loop j).trips = min 9 (16 - j.val) ∧ (k0_t5_loop j).trips = min 9 (16 - j.val) := by
  decide +kernel

/-- The loops after the two over the query tiles make none. -/
theorem t46_trips : ∀ j : Fin k0_t2_loop.trips, (k0_t4_loop j).trips = 0 ∧ (k0_t6_loop j).trips = 0 := by
  decide +kernel

/-- Where a trip for the group's first head reads and writes. -/
theorem off3 : ∀ (j : Fin k0_t2_loop.trips) (k : Fin (k0_t3_loop j).trips),
    k0_off11 j k = ![0, 0, (j.val + k.val) * 256, 0] ∧ k0_off13 j k = ![0, 0, j.val + k.val, 0] ∧ k0_off14 j k = ![0, j.val + k.val, 0]
      ∧ k0_off15 j k = ![0, j.val + k.val, 0, 0] ∧ k0_off12 j = ![0, 0, j.val * 256, 0] := by
  decide +kernel

/-- Where a trip for the group's second head reads and writes. -/
theorem off5 : ∀ (j : Fin k0_t2_loop.trips) (k : Fin (k0_t5_loop j).trips),
    k0_off21 j k = ![0, 1, (j.val + k.val) * 256, 0] ∧ k0_off23 j k = ![0, 1, j.val + k.val, 0] ∧ k0_off24 j k = ![1, j.val + k.val, 0]
      ∧ k0_off25 j k = ![1, j.val + k.val, 0, 0] ∧ k0_off22 j = ![0, 0, j.val * 256, 0] := by
  decide +kernel

end Cert.Proof.KernelIdeal
-- ==== Proof.KernelIdeal.Trip.lean ====
/- What one trip of each loop over the q tiles writes, at exact arithmetic. -/
module

public import proofs.«01_k».proof.Proof.Gen.KernelIdeal.Loops
public import proofs.«01_k».proof.Proof.KernelIdeal.Tile
public import proofs.«01_k».proof.Proof.KernelIdeal.Off

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

/-- One trip of the first head's loop over the query tiles. -/
theorem trip_t3_eq (arg1 : BitVec 32) (v0 : IVec S256x256 32) (v1 : IVec S256x256 32) (k0_t2 : Fin k0_t2_loop.trips) (arg17 : BitVec 32) (v10 : BitVec 32) (v20 : FVec Ideal S256x256 .f32) (v21 : FVec Ideal S256x256 .f32) (v23 : BitVec 32) (v29 : EReal) (v34 : EReal) (c8_i32 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty) (k : Fin (k0_t3_loop k0_t2).trips) (f12 : BufTy.Contents (Elt Ideal) arg12.view.ty) (f14 : BufTy.Contents (Elt Ideal) arg14.view.ty) (f15 : BufTy.Contents (Elt Ideal) arg15.view.ty) :
    let diff := k0_pay14 v0 v1 k0_t2 arg17 1#32 k
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 k f12 f14 f15
      = ([⟨Rect.unit (s := S2x16x256x256) (k0_off15 k0_t2 k) S1x1x256x256.size (k0_off15_inb k0_t2 k),
          up12 (View.readAt (Elt Ideal) arg12.view (Rect.unit (s := S2x16x256x256) (k0_off15 k0_t2 k) S1x1x256x256.size (k0_off15_inb k0_t2 k)).toLoadRect f12) (View.readAt (Elt Ideal) arg13.view (Rect.unit (s := S256x256) ![0, 0] S256x256.size inb_S256x256_S256x256_0_0).toLoadRect X_arg13)
            (dsT diff v29 v34 (View.readAt (Elt Ideal) arg3.view (Rect.unit (s := S1x2x4096x256) (k0_off11 k0_t2 k) S1x1x256x256.size (k0_off11_inb k0_t2 k)).toLoadRect X_arg3) (View.readAt (Elt Ideal) arg4.view (Rect.unit (s := S1x1x4096x256) (k0_off12 k0_t2) S1x1x256x256.size (k0_off12_inb k0_t2)).toLoadRect X_arg4) (View.readAt (Elt Ideal) arg5.view (Rect.unit (s := S1x1x4096x256) (k0_off12 k0_t2) S1x1x256x256.size (k0_off12_inb k0_t2)).toLoadRect X_arg5) (View.readAt (Elt Ideal) arg6.view (Rect.unit (s := S1x2x4096x256) (k0_off11 k0_t2 k) S1x1x256x256.size (k0_off11_inb k0_t2 k)).toLoadRect X_arg6) (View.readAt (Elt Ideal) arg8.view (Rect.unit (s := S1x2x16x256) (k0_off13 k0_t2 k) S1x1x1x256.size (k0_off13_inb k0_t2 k)).toLoadRect X_arg8) (View.readAt (Elt Ideal) arg16.view (Rect.unit (s := S2x16x256) (k0_off14 k0_t2 k) S1x1x256.size (k0_off14_inb k0_t2 k)).toLoadRect X_arg16))⟩],
        [⟨Rect.unit (s := S256x256) ![0, 0] S256x256.size inb_S256x256_S256x256_0_0, up14 (View.readAt (Elt Ideal) arg14.view (Rect.unit (s := S256x256) ![0, 0] S256x256.size inb_S256x256_S256x256_0_0).toLoadRect f14) (View.readAt (Elt Ideal) arg3.view (Rect.unit (s := S1x2x4096x256) (k0_off11 k0_t2 k) S1x1x256x256.size (k0_off11_inb k0_t2 k)).toLoadRect X_arg3) (dsT diff v29 v34 (View.readAt (Elt Ideal) arg3.view (Rect.unit (s := S1x2x4096x256) (k0_off11 k0_t2 k) S1x1x256x256.size (k0_off11_inb k0_t2 k)).toLoadRect X_arg3) (View.readAt (Elt Ideal) arg4.view (Rect.unit (s := S1x1x4096x256) (k0_off12 k0_t2) S1x1x256x256.size (k0_off12_inb k0_t2)).toLoadRect X_arg4) (View.readAt (Elt Ideal) arg5.view (Rect.unit (s := S1x1x4096x256) (k0_off12 k0_t2) S1x1x256x256.size (k0_off12_inb k0_t2)).toLoadRect X_arg5) (View.readAt (Elt Ideal) arg6.view (Rect.unit (s := S1x2x4096x256) (k0_off11 k0_t2 k) S1x1x256x256.size (k0_off11_inb k0_t2 k)).toLoadRect X_arg6) (View.readAt (Elt Ideal) arg8.view (Rect.unit (s := S1x2x16x256) (k0_off13 k0_t2 k) S1x1x1x256.size (k0_off13_inb k0_t2 k)).toLoadRect X_arg8) (View.readAt (Elt Ideal) arg16.view (Rect.unit (s := S2x16x256) (k0_off14 k0_t2 k) S1x1x256.size (k0_off14_inb k0_t2 k)).toLoadRect X_arg16))⟩],
        [⟨Rect.unit (s := S256x256) ![0, 0] S256x256.size inb_S256x256_S256x256_0_0, up15 (View.readAt (Elt Ideal) arg15.view (Rect.unit (s := S256x256) ![0, 0] S256x256.size inb_S256x256_S256x256_0_0).toLoadRect f15) (View.readAt (Elt Ideal) arg6.view (Rect.unit (s := S1x2x4096x256) (k0_off11 k0_t2 k) S1x1x256x256.size (k0_off11_inb k0_t2 k)).toLoadRect X_arg6) (pT diff v29 (View.readAt (Elt Ideal) arg3.view (Rect.unit (s := S1x2x4096x256) (k0_off11 k0_t2 k) S1x1x256x256.size (k0_off11_inb k0_t2 k)).toLoadRect X_arg3) (View.readAt (Elt Ideal) arg4.view (Rect.unit (s := S1x1x4096x256) (k0_off12 k0_t2) S1x1x256x256.size (k0_off12_inb k0_t2)).toLoadRect X_arg4) (View.readAt (Elt Ideal) arg8.view (Rect.unit (s := S1x2x16x256) (k0_off13 k0_t2 k) S1x1x1x256.size (k0_off13_inb k0_t2 k)).toLoadRect X_arg8))⟩]) := by
  unfold tripL_k0_t3 trip_k0_t3; rfl

/-- One trip of the second head's loop over the query tiles. -/
theorem trip_t5_eq (v0 : IVec S256x256 32) (v1 : IVec S256x256 32) (k0_t2 : Fin k0_t2_loop.trips) (arg17 : BitVec 32) (v10 : BitVec 32) (v57 : FVec Ideal S256x256 .f32) (v63 : FVec Ideal S256x256 .f32) (v65 : BitVec 32) (v71 : EReal) (v76 : EReal) (v77 : FVec Ideal S256x256 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty) (k : Fin (k0_t5_loop k0_t2).trips) (f12 : BufTy.Contents (Elt Ideal) arg12.view.ty) (f14 : BufTy.Contents (Elt Ideal) arg14.view.ty) (f15 : BufTy.Contents (Elt Ideal) arg15.view.ty) :
    let diff := k0_pay14 v0 v1 k0_t2 arg17 1#32 k
    tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 k f12 f14 f15
      = ([⟨Rect.unit (s := S2x16x256x256) (k0_off25 k0_t2 k) S1x1x256x256.size (k0_off25_inb k0_t2 k),
          up12 (View.readAt (Elt Ideal) arg12.view (Rect.unit (s := S2x16x256x256) (k0_off25 k0_t2 k) S1x1x256x256.size (k0_off25_inb k0_t2 k)).toLoadRect f12) (View.readAt (Elt Ideal) arg13.view (Rect.unit (s := S256x256) ![0, 0] S256x256.size inb_S256x256_S256x256_0_0).toLoadRect X_arg13)
            (dsT diff v71 v76 (View.readAt (Elt Ideal) arg3.view (Rect.unit (s := S1x2x4096x256) (k0_off21 k0_t2 k) S1x1x256x256.size (k0_off21_inb k0_t2 k)).toLoadRect X_arg3) (View.readAt (Elt Ideal) arg4.view (Rect.unit (s := S1x1x4096x256) (k0_off22 k0_t2) S1x1x256x256.size (k0_off22_inb k0_t2)).toLoadRect X_arg4) (View.readAt (Elt Ideal) arg5.view (Rect.unit (s := S1x1x4096x256) (k0_off22 k0_t2) S1x1x256x256.size (k0_off22_inb k0_t2)).toLoadRect X_arg5) (View.readAt (Elt Ideal) arg6.view (Rect.unit (s := S1x2x4096x256) (k0_off21 k0_t2 k) S1x1x256x256.size (k0_off21_inb k0_t2 k)).toLoadRect X_arg6) (View.readAt (Elt Ideal) arg8.view (Rect.unit (s := S1x2x16x256) (k0_off23 k0_t2 k) S1x1x1x256.size (k0_off23_inb k0_t2 k)).toLoadRect X_arg8) (View.readAt (Elt Ideal) arg16.view (Rect.unit (s := S2x16x256) (k0_off24 k0_t2 k) S1x1x256.size (k0_off24_inb k0_t2 k)).toLoadRect X_arg16))⟩],
        [⟨Rect.unit (s := S256x256) ![0, 0] S256x256.size inb_S256x256_S256x256_0_0, up14 (View.readAt (Elt Ideal) arg14.view (Rect.unit (s := S256x256) ![0, 0] S256x256.size inb_S256x256_S256x256_0_0).toLoadRect f14) (View.readAt (Elt Ideal) arg3.view (Rect.unit (s := S1x2x4096x256) (k0_off21 k0_t2 k) S1x1x256x256.size (k0_off21_inb k0_t2 k)).toLoadRect X_arg3) (dsT diff v71 v76 (View.readAt (Elt Ideal) arg3.view (Rect.unit (s := S1x2x4096x256) (k0_off21 k0_t2 k) S1x1x256x256.size (k0_off21_inb k0_t2 k)).toLoadRect X_arg3) (View.readAt (Elt Ideal) arg4.view (Rect.unit (s := S1x1x4096x256) (k0_off22 k0_t2) S1x1x256x256.size (k0_off22_inb k0_t2)).toLoadRect X_arg4) (View.readAt (Elt Ideal) arg5.view (Rect.unit (s := S1x1x4096x256) (k0_off22 k0_t2) S1x1x256x256.size (k0_off22_inb k0_t2)).toLoadRect X_arg5) (View.readAt (Elt Ideal) arg6.view (Rect.unit (s := S1x2x4096x256) (k0_off21 k0_t2 k) S1x1x256x256.size (k0_off21_inb k0_t2 k)).toLoadRect X_arg6) (View.readAt (Elt Ideal) arg8.view (Rect.unit (s := S1x2x16x256) (k0_off23 k0_t2 k) S1x1x1x256.size (k0_off23_inb k0_t2 k)).toLoadRect X_arg8) (View.readAt (Elt Ideal) arg16.view (Rect.unit (s := S2x16x256) (k0_off24 k0_t2 k) S1x1x256.size (k0_off24_inb k0_t2 k)).toLoadRect X_arg16))⟩],
        [⟨Rect.unit (s := S256x256) ![0, 0] S256x256.size inb_S256x256_S256x256_0_0, up15 (View.readAt (Elt Ideal) arg15.view (Rect.unit (s := S256x256) ![0, 0] S256x256.size inb_S256x256_S256x256_0_0).toLoadRect f15) (View.readAt (Elt Ideal) arg6.view (Rect.unit (s := S1x2x4096x256) (k0_off21 k0_t2 k) S1x1x256x256.size (k0_off21_inb k0_t2 k)).toLoadRect X_arg6) (pT diff v71 (View.readAt (Elt Ideal) arg3.view (Rect.unit (s := S1x2x4096x256) (k0_off21 k0_t2 k) S1x1x256x256.size (k0_off21_inb k0_t2 k)).toLoadRect X_arg3) (View.readAt (Elt Ideal) arg4.view (Rect.unit (s := S1x1x4096x256) (k0_off22 k0_t2) S1x1x256x256.size (k0_off22_inb k0_t2)).toLoadRect X_arg4) (View.readAt (Elt Ideal) arg8.view (Rect.unit (s := S1x2x16x256) (k0_off23 k0_t2 k) S1x1x1x256.size (k0_off23_inb k0_t2 k)).toLoadRect X_arg8))⟩]) := by
  unfold tripL_k0_t5 trip_k0_t5; rfl

end Cert.Proof.KernelIdeal
-- ==== Proof.KernelIdeal.Spec.lean ====
/- The kernel's arithmetic on one block, row by row: the score-shaped quantities at a key row and a query row, what a
   store of each of the three updates leaves, and the sums over the tiles. -/
module

public import proofs.«01_k».proof.Proof.KernelIdeal.Tile
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.SL.Sem

/-- Row `x` of tile `i`. -/
def row (i : Fin 16) (x : Fin 256) : Fin 4096 := ⟨i.val * 256 + x.val, by have := i.isLt; have := x.isLt; omega⟩

/-- The soft-capped score of key row `k` and query row `q` of head `r`, over the cap. -/
def tB (cs : EReal) (x3 : FVec Ideal S1x2x4096x256 .fp8e4m3) (x4 : FVec Ideal S1x1x4096x256 .fp8e4m3) (r : Fin 2) (k q : Fin 4096) : EReal :=
  Ideal.tanh ((∑ d : Fin 256, x4 (ix4 0 0 k d) * x3 (ix4 0 r q d)) * cs)

/-- The probability of key row `k` for query row `q`: zero outside the window. -/
def pB (cs : EReal) (x3 : FVec Ideal S1x2x4096x256 .fp8e4m3) (x4 : FVec Ideal S1x1x4096x256 .fp8e4m3) (lse : Fin 2 → Fin 4096 → EReal)
    (r : Fin 2) (k q : Fin 4096) : EReal :=
  if k.val ≤ q.val ∧ q.val < k.val + 2048 then Ideal.exp2 (tB cs x3 x4 r k q * c5 - lse r q * c1) else 0

/-- The gradient of the score of key row `k` and query row `q`, over the scores' own scale. -/
def dB (cs cdp : EReal) (x3 : FVec Ideal S1x2x4096x256 .fp8e4m3) (x4 x5 : FVec Ideal S1x1x4096x256 .fp8e4m3) (x6 : FVec Ideal S1x2x4096x256 .fp8e5m2)
    (lse delta : Fin 2 → Fin 4096 → EReal) (r : Fin 2) (k q : Fin 4096) : EReal :=
  pB cs x3 x4 lse r k q * ((∑ d : Fin 256, x5 (ix4 0 0 k d) * x6 (ix4 0 r q d)) * cdp - delta r q) * (1 - tB cs x3 x4 r k q * tB cs x3 x4 r k q)

/-- Outside the window the probability is zero. -/
theorem pB_out {cs : EReal} {x3 : FVec Ideal S1x2x4096x256 .fp8e4m3} {x4 : FVec Ideal S1x1x4096x256 .fp8e4m3} {lse : Fin 2 → Fin 4096 → EReal}
    {r : Fin 2} {k q : Fin 4096} (h : ¬ (k.val ≤ q.val ∧ q.val < k.val + 2048)) : pB cs x3 x4 lse r k q = 0 := if_neg h

/-- Outside the window the gradient is zero. -/
theorem dB_out {cs cdp : EReal} {x3 : FVec Ideal S1x2x4096x256 .fp8e4m3} {x4 x5 : FVec Ideal S1x1x4096x256 .fp8e4m3} {x6 : FVec Ideal S1x2x4096x256 .fp8e5m2}
    {lse delta : Fin 2 → Fin 4096 → EReal} {r : Fin 2} {k q : Fin 4096} (h : ¬ (k.val ≤ q.val ∧ q.val < k.val + 2048)) :
    dB cs cdp x3 x4 x5 x6 lse delta r k q = 0 := by
  unfold dB; rw [pB_out h, zero_mul, zero_mul]

section Tiles

variable {cs cdp : EReal} {x3 : FVec Ideal S1x2x4096x256 .fp8e4m3} {x4 x5 : FVec Ideal S1x1x4096x256 .fp8e4m3} {x6 : FVec Ideal S1x2x4096x256 .fp8e5m2}
  {lse delta : Fin 2 → Fin 4096 → EReal} {r : Fin 2} {j i : Fin 16} {n : ℕ}
  {q k v : FVec Ideal S1x1x256x256 .fp8e4m3} {d : FVec Ideal S1x1x256x256 .fp8e5m2} {l : FVec Ideal S1x1x1x256 .f32} {dl : FVec Ideal S1x1x256 .f32}

/-- A tile of probabilities holds those of its rows. -/
theorem pT_tile (hn : i.val = j.val + n) (hq : ∀ x e, q (ix4 0 0 x e) = x3 (ix4 0 r (row i x) e)) (hk : ∀ a e, k (ix4 0 0 a e) = x4 (ix4 0 0 (row j a) e))
    (hl : ∀ x, l (ix4 0 0 0 x) = lse r (row i x)) (a x : Fin 256) :
    pT (diffT n) cs q k l (ix2 a x) = pB cs x3 x4 lse r (row j a) (row i x) := by
  rw [pT_apply n (by have := i.isLt; omega), pB]
  unfold tB
  simp only [hq, hk, hl]
  refine if_congr ?_ rfl rfl
  simp only [row, Fin.val_mk]
  omega

/-- A tile of score gradients holds those of its rows. -/
theorem dsT_tile (hn : i.val = j.val + n) (hq : ∀ x e, q (ix4 0 0 x e) = x3 (ix4 0 r (row i x) e)) (hk : ∀ a e, k (ix4 0 0 a e) = x4 (ix4 0 0 (row j a) e))
    (hv : ∀ a e, v (ix4 0 0 a e) = x5 (ix4 0 0 (row j a) e)) (hd : ∀ x e, d (ix4 0 0 x e) = x6 (ix4 0 r (row i x) e))
    (hl : ∀ x, l (ix4 0 0 0 x) = lse r (row i x)) (hdl : ∀ x, dl (ix3 0 0 x) = delta r (row i x)) (a x : Fin 256) :
    dsT (diffT n) cs cdp q k v d l dl (ix2 a x) = dB cs cdp x3 x4 x5 x6 lse delta r (row j a) (row i x) := by
  rw [dsT_apply n (by have := i.isLt; omega), pT_tile hn hq hk hl, dB]
  unfold tB
  simp only [hq, hk, hv, hd, hdl]

end Tiles

section Stores

variable {sp : Space}

/-- A float buffer's contents as numbers. -/
abbrev rd {s : Shape} (v : View sig .tc sp s .f32) (f : v.ty.Contents (Elt Ideal)) : s.Idx → EReal := v.read (Elt Ideal) f

/-- A load at a unit-stride rectangle reads the buffer at the offset plus the index. -/
theorem load_apply {s : Shape} {e : EltTy} (v : View sig .tc sp s e) (f : v.ty.Contents (Elt Ideal)) {off off' size : Fin s.rank → ℕ}
    {inb : ∀ a, off a + size a ≤ s.size a} (h : off = off') (y : (Rect.unit off size inb).shape.Idx) (z : s.Idx) (hz : ∀ a, (z a).val = off' a + (y a).val) :
    v.readAt (Elt Ideal) (Rect.unit off size inb).toLoadRect f y = v.read (Elt Ideal) f z := by
  subst h
  exact congrArg (v.read (Elt Ideal) f) (funext fun a => Fin.ext (by show off a + 1 * (y a).val = (z a).val; rw [hz a]; omega))

/-- What the update of one tile of the query gradient's buffer leaves. -/
theorem store12 (v : View sig .tc sp S2x16x256x256 .f32) (f : v.ty.Contents (Elt Ideal)) (L : List (View.Piece (Elt Ideal) S2x16x256x256 .f32))
    {off : Fin 4 → ℕ} {inb : ∀ a, off a + S1x1x256x256.size a ≤ S2x16x256x256.size a} {r0 i0 : ℕ} (h : off = ![r0, i0, 0, 0])
    (kt ds : FVec Ideal S256x256 .bf16) (r : Fin 2) (i : Fin 16) (d x : Fin 256) :
    v.read (Elt Ideal) (v.writes (Elt Ideal) f (⟨Rect.unit (s := S2x16x256x256) off S1x1x256x256.size inb,
        up12 (v.readAt (Elt Ideal) (Rect.unit (s := S2x16x256x256) off S1x1x256x256.size inb).toLoadRect (v.writes (Elt Ideal) f L)) kt ds⟩ :: L)) (ix4 r i d x)
      = v.read (Elt Ideal) (v.writes (Elt Ideal) f L) (ix4 r i d x)
        + if r.val = r0 ∧ i.val = i0 then ∑ a : Fin 256, kt (ix2 d a) * ds (ix2 a x) else 0 := by
  by_cases hc : r.val = r0 ∧ i.val = i0
  · rw [if_pos hc]
    have hz : ∀ a : Fin 4, ((ix4 r i d x : S2x16x256x256.Idx) a).val = (![r0, i0, 0, 0] : Fin 4 → ℕ) a + ((ix4 0 0 d x : S1x1x256x256.Idx) a).val := fun a => by
      fin_cases a
      · exact hc.1
      · exact hc.2
      · exact (Nat.zero_add _).symm
      · exact (Nat.zero_add _).symm
    rw [View.read_writes_cons_unit_of_mem v f inb _ L _ (ix4 0 0 d x : S1x1x256x256.Idx) h hz]
    refine (up12_apply _ kt ds d x).trans (congrArg (· + _) ?_)
    exact load_apply v _ h (ix4 0 0 d x : S1x1x256x256.Idx) _ hz
  · rw [if_neg hc, add_zero]
    by_cases h0 : r.val = r0
    · exact View.read_writes_cons_unit_of_not_mem v f inb _ L _ h 1 (by
        show i.val < i0 ∨ i0 + 1 ≤ i.val
        omega)
    · exact View.read_writes_cons_unit_of_not_mem v f inb _ L _ h 0 (by
        show r.val < r0 ∨ r0 + 1 ≤ r.val
        omega)

/-- What the update of the key gradient's tile leaves. -/
theorem store14 (v : View sig .tc sp S256x256 .f32) (f : v.ty.Contents (Elt Ideal)) (L : List (View.Piece (Elt Ideal) S256x256 .f32))
    (q : FVec Ideal S1x1x256x256 .fp8e4m3) (ds : FVec Ideal S256x256 .bf16) (a d : Fin 256) :
    v.read (Elt Ideal) (v.writes (Elt Ideal) f (⟨Rect.unit (s := S256x256) ![0, 0] S256x256.size inb_S256x256_S256x256_0_0,
        up14 (v.readAt (Elt Ideal) (Rect.unit (s := S256x256) ![0, 0] S256x256.size inb_S256x256_S256x256_0_0).toLoadRect (v.writes (Elt Ideal) f L)) q ds⟩ :: L)) (ix2 a d)
      = v.read (Elt Ideal) (v.writes (Elt Ideal) f L) (ix2 a d) + ∑ x : Fin 256, ds (ix2 a x) * q (ix4 0 0 x d) := by
  rw [View.read_writes_full, up14_apply, View.readAt_full]

/-- What the update of the value gradient's tile leaves. -/
theorem store15 (v : View sig .tc sp S256x256 .f32) (f : v.ty.Contents (Elt Ideal)) (L : List (View.Piece (Elt Ideal) S256x256 .f32))
    (d : FVec Ideal S1x1x256x256 .fp8e5m2) (p : FVec Ideal S256x256 .f32) (a e : Fin 256) :
    v.read (Elt Ideal) (v.writes (Elt Ideal) f (⟨Rect.unit (s := S256x256) ![0, 0] S256x256.size inb_S256x256_S256x256_0_0,
        up15 (v.readAt (Elt Ideal) (Rect.unit (s := S256x256) ![0, 0] S256x256.size inb_S256x256_S256x256_0_0).toLoadRect (v.writes (Elt Ideal) f L)) d p⟩ :: L)) (ix2 a e)
      = v.read (Elt Ideal) (v.writes (Elt Ideal) f L) (ix2 a e) + ∑ x : Fin 256, p (ix2 a x) * d (ix4 0 0 x e) := by
  rw [View.read_writes_full, up15_apply, View.readAt_full]

end Stores

/-- The sum over the tiles from `j` on, below `j + n`. -/
def tiles (j n : ℕ) (f : Fin 16 → EReal) : EReal := ∑ i : Fin 16, if j ≤ i.val ∧ i.val < j + n then f i else 0

/-- The sum over no tiles is zero. -/
theorem tiles_zero (j : ℕ) (f : Fin 16 → EReal) : tiles j 0 f = 0 :=
  Finset.sum_eq_zero fun i _ => if_neg (by omega)

/-- One more tile adds its term. -/
theorem tiles_succ (j n : ℕ) (h : j + n < 16) (f : Fin 16 → EReal) : tiles j (n + 1) f = tiles j n f + f ⟨j + n, h⟩ := by
  have e : f ⟨j + n, h⟩ = ∑ i : Fin 16, if i = ⟨j + n, h⟩ then f i else 0 := by rw [Finset.sum_ite_eq' Finset.univ]; simp
  rw [e, tiles, tiles, ← Finset.sum_add_distrib]
  refine Finset.sum_congr rfl fun i _ => ?_
  by_cases h1 : i = ⟨j + n, h⟩
  · subst h1
    rw [if_pos ⟨by simp, by simp⟩, if_neg (by simp), if_pos rfl, zero_add]
  · have h2 : i.val ≠ j + n := fun hh => h1 (Fin.ext hh)
    rw [if_neg h1, add_zero]
    exact if_congr (by omega) rfl rfl

/-- Tiles whose terms vanish may be left out. -/
theorem tiles_all (j n : ℕ) (f : Fin 16 → EReal) (h : ∀ i : Fin 16, ¬ (j ≤ i.val ∧ i.val < j + n) → f i = 0) : tiles j n f = ∑ i, f i :=
  Finset.sum_congr rfl fun i _ => by
    by_cases hc : j ≤ i.val ∧ i.val < j + n
    · exact if_pos hc
    · rw [if_neg hc, h i hc]

/-- A sum over the rows is the sum over the tiles of the sums over their rows. -/
theorem sum_rows (f : Fin 4096 → EReal) : ∑ k, f k = ∑ i : Fin 16, ∑ x : Fin 256, f (row i x) :=
  Fin.sum_univ_tiles 16 256 rfl f

end Cert.Proof.KernelIdeal
-- ==== Proof.KernelIdeal.QLoop.lean ====
/- What the two loops over the q tiles of one kv tile leave in the three accumulators. -/
module

public import proofs.«01_k».proof.Proof.Gen.KernelIdeal.Loops
public import proofs.«01_k».proof.Proof.KernelIdeal.Trip
public import proofs.«01_k».proof.Proof.KernelIdeal.Spec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

/-- A kv tile's number among the sixteen. -/
def tl (j : Fin k0_t2_loop.trips) : Fin 16 := ⟨j.val, lt_of_lt_of_eq j.isLt t2_trips⟩

/-- The word of position differences the body computes. -/
theorem diff_eq (j : Fin k0_t2_loop.trips) (w : BitVec 32) (k : Fin (k0_t3_loop j).trips)
    (hv0 : v0 = fun y => BitVec.ofNat 32 (y 0).val) (hv1 : v1 = fun y => BitVec.ofNat 32 (y 1).val) :
    k0_pay14 v0 v1 j w 1#32 k = diffT k.val := by
  subst hv0 hv1
  funext y
  show BitVec.ofNat 32 (y 1).val - BitVec.ofNat 32 (y 0).val + (w + BitVec.ofNat 32 k.val * 1#32 - w) * 256#32
    = BitVec.ofNat 32 (y 1).val - BitVec.ofNat 32 (y 0).val + BitVec.ofNat 32 (256 * k.val)
  congr 1
  rw [BitVec.mul_one, BitVec.add_comm w, BitVec.add_sub_cancel, Nat.mul_comm, BitVec.ofNat_mul]

variable {x3 : FVec Ideal S1x2x4096x256 .fp8e4m3} {x4 x5 : FVec Ideal S1x1x4096x256 .fp8e4m3} {x6 : FVec Ideal S1x2x4096x256 .fp8e5m2}
  {lse delta : Fin 2 → Fin 4096 → EReal}

/-- What the trips before `n` of the loop over the q tiles at head 0 leave: to the query gradient's tiles, the key
    gradient's tile and the value gradient's tile, the parts of the tiles visited are added. -/
theorem loop_t3 (arg1 : BitVec 32) (v0 : IVec S256x256 32) (v1 : IVec S256x256 32) (k0_t2 : Fin k0_t2_loop.trips) (arg17 : BitVec 32) (v10 : BitVec 32) (v20 : FVec Ideal S256x256 .f32) (v21 : FVec Ideal S256x256 .f32) (v23 : BitVec 32) (v29 : EReal) (v34 : EReal) (c8_i32 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty)  (G12 : BufTy.Contents (Elt Ideal) arg12.view.ty) (G14 : BufTy.Contents (Elt Ideal) arg14.view.ty) (G15 : BufTy.Contents (Elt Ideal) arg15.view.ty)
    (hv0 : v0 = fun y => BitVec.ofNat 32 (y 0).val) (hv1 : v1 = fun y => BitVec.ofNat 32 (y 1).val)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (h13 : ∀ d a, arg13.view.read (Elt Ideal) X_arg13 (ix2 d a) = x4 (ix4 0 0 (row (tl k0_t2) a) d))
    (n : ℕ) (hn : n ≤ (k0_t3_loop k0_t2).trips) :
    (∀ r qi d x, rd arg12.view (arg12.view.writes (Elt Ideal) G12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 n).1) (ix4 r qi d x)
        = rd arg12.view G12 (ix4 r qi d x)
          + if r.val = 0 ∧ k0_t2.val ≤ qi.val ∧ qi.val < k0_t2.val + n then
              ∑ a : Fin 256, x4 (ix4 0 0 (row (tl k0_t2) a) d) * dB v29 v34 x3 x4 x5 x6 lse delta 0 (row (tl k0_t2) a) (row qi x) else 0)
      ∧ (∀ a d, rd arg14.view (arg14.view.writes (Elt Ideal) G14 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 n).2.1) (ix2 a d)
        = rd arg14.view G14 (ix2 a d)
          + tiles k0_t2.val n fun qi => ∑ x : Fin 256, dB v29 v34 x3 x4 x5 x6 lse delta 0 (row (tl k0_t2) a) (row qi x) * x3 (ix4 0 0 (row qi x) d))
      ∧ ∀ a d, rd arg15.view (arg15.view.writes (Elt Ideal) G15 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 n).2.2) (ix2 a d)
        = rd arg15.view G15 (ix2 a d)
          + tiles k0_t2.val n fun qi => ∑ x : Fin 256, pB v29 x3 x4 lse 0 (row (tl k0_t2) a) (row qi x) * x6 (ix4 0 0 (row qi x) d) := by
  induction n with
  | zero =>
    refine ⟨fun r qi d x => ?_, fun a d => ?_, fun a d => ?_⟩
    · rw [if_neg (by omega), add_zero]; rfl
    · rw [tiles_zero, add_zero]; rfl
    · rw [tiles_zero, add_zero]; rfl
  | succ m ih =>
    obtain ⟨i12, i14, i15⟩ := ih (by omega)
    have hj : k0_t2.val < 16 := lt_of_lt_of_eq k0_t2.isLt t2_trips
    have ht := (t35_trips k0_t2).1
    have hjm : k0_t2.val + m < 16 := by omega
    obtain ⟨oq, ol, od, o12, ok⟩ := off3 k0_t2 ⟨m, hn⟩
    dsimp only [] at oq ol od o12
    have hd := diff_eq v0 v1 k0_t2 arg17 ⟨m, by have := (t35_trips k0_t2).1; omega⟩ hv0 hv1
    have eq := trip_t3_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 ⟨m, hn⟩ (arg12.view.writes (Elt Ideal) G12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 m).1)
      (arg14.view.writes (Elt Ideal) G14 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 m).2.1) (arg15.view.writes (Elt Ideal) G15 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 m).2.2)
    have ez : ∀ r : Fin 2, r.val = 0 → r = 0 := fun r h => Fin.ext h
    let qt : Fin 16 := ⟨k0_t2.val + m, hjm⟩
    have tq : ∀ (x d : Fin 256), View.readAt (Elt Ideal) arg3.view (Rect.unit (s := S1x2x4096x256) (k0_off11 k0_t2 ⟨m, hn⟩) S1x1x256x256.size (k0_off11_inb k0_t2 ⟨m, hn⟩)).toLoadRect X_arg3 (ix4 0 0 x d) = x3 (ix4 0 0 (row qt x) d) := fun x d => by
      rw [← h3]
      refine load_apply arg3.view X_arg3 oq _ _ fun a => ?_
      fin_cases a <;> simp [row, qt]
    have td : ∀ (x d : Fin 256), View.readAt (Elt Ideal) arg6.view (Rect.unit (s := S1x2x4096x256) (k0_off11 k0_t2 ⟨m, hn⟩) S1x1x256x256.size (k0_off11_inb k0_t2 ⟨m, hn⟩)).toLoadRect X_arg6 (ix4 0 0 x d) = x6 (ix4 0 0 (row qt x) d) := fun x d => by
      rw [← h6]
      refine load_apply arg6.view X_arg6 oq _ _ fun a => ?_
      fin_cases a <;> simp [row, qt]
    have tk : ∀ (a d : Fin 256), View.readAt (Elt Ideal) arg4.view (Rect.unit (s := S1x1x4096x256) (k0_off12 k0_t2) S1x1x256x256.size (k0_off12_inb k0_t2)).toLoadRect X_arg4 (ix4 0 0 a d) = x4 (ix4 0 0 (row (tl k0_t2) a) d) := fun x d => by
      rw [← h4]
      refine load_apply arg4.view X_arg4 ok _ _ fun a => ?_
      fin_cases a <;> simp [row, tl]
    have tv : ∀ (a d : Fin 256), View.readAt (Elt Ideal) arg5.view (Rect.unit (s := S1x1x4096x256) (k0_off12 k0_t2) S1x1x256x256.size (k0_off12_inb k0_t2)).toLoadRect X_arg5 (ix4 0 0 a d) = x5 (ix4 0 0 (row (tl k0_t2) a) d) := fun x d => by
      rw [← h5]
      refine load_apply arg5.view X_arg5 ok _ _ fun a => ?_
      fin_cases a <;> simp [row, tl]
    have tl' : ∀ x : Fin 256, View.readAt (Elt Ideal) arg8.view (Rect.unit (s := S1x2x16x256) (k0_off13 k0_t2 ⟨m, hn⟩) S1x1x1x256.size (k0_off13_inb k0_t2 ⟨m, hn⟩)).toLoadRect X_arg8 (ix4 0 0 0 x) = lse 0 (row qt x) := fun x => by
      rw [← h8]
      refine load_apply arg8.view X_arg8 ol _ _ fun a => ?_
      fin_cases a <;> simp [qt]
    have tdl : ∀ x : Fin 256, View.readAt (Elt Ideal) arg16.view (Rect.unit (s := S2x16x256) (k0_off14 k0_t2 ⟨m, hn⟩) S1x1x256.size (k0_off14_inb k0_t2 ⟨m, hn⟩)).toLoadRect X_arg16 (ix3 0 0 x) = delta 0 (row qt x) := fun x => by
      rw [← h16]
      refine load_apply arg16.view X_arg16 od _ _ fun a => ?_
      fin_cases a <;> simp [qt]
    have tds := fun a x => dsT_tile (cs := v29) (cdp := v34) (n := m) (i := qt) (j := tl k0_t2) rfl tq tk tv td tl' tdl a x
    have tp := fun a x => pT_tile (cs := v29) (n := m) (i := qt) (j := tl k0_t2) rfl tq tk tl' a x
    rw [show pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 (m + 1) = _ from pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 X_arg3 X_arg4 X_arg5 X_arg6 X_arg8 X_arg13 X_arg16 G12 G14 G15 ⟨m, hn⟩, eq]
    dsimp only [List.cons_append, List.nil_append]
    rw [show k0_pay14 v0 v1 k0_t2 arg17 1#32 ⟨m, _⟩ = diffT m from hd]
    refine ⟨fun r qi d x => ?_, fun a d => ?_, fun a d => ?_⟩
    · refine (store12 arg12.view G12 _ o12 _ _ r qi d x).trans ((congrArg (· + _) (i12 r qi d x)).trans ((add_assoc _ _ _).trans (congrArg (rd arg12.view G12 (ix4 r qi d x) + ·) ?_)))
      by_cases hq : r.val = 0 ∧ qi.val = k0_t2.val + m
      · obtain rfl : qi = qt := Fin.ext hq.2
        rw [if_neg (by omega), zero_add, if_pos hq, if_pos ⟨hq.1, by omega, by omega⟩]
        refine Finset.sum_congr rfl fun a _ => ?_
        rw [tds, ← h13, View.readAt_full]
      · rw [if_neg hq, add_zero]
        exact if_congr (by omega) rfl rfl
    · refine (store14 arg14.view G14 _ _ _ a d).trans ((congrArg (· + _) (i14 a d)).trans ((add_assoc _ _ _).trans (congrArg (rd arg14.view G14 (ix2 a d) + ·) ?_)))
      rw [tiles_succ _ _ hjm]
      exact congrArg _ (Finset.sum_congr rfl fun x _ => by rw [tds, tq])
    · refine (store15 arg15.view G15 _ _ _ a d).trans ((congrArg (· + _) (i15 a d)).trans ((add_assoc _ _ _).trans (congrArg (rd arg15.view G15 (ix2 a d) + ·) ?_)))
      rw [tiles_succ _ _ hjm]
      exact congrArg _ (Finset.sum_congr rfl fun x _ => by rw [tp, td])

/-- What the trips before `n` of the loop over the q tiles at head 1 leave: to the query gradient's tiles, the key
    gradient's tile and the value gradient's tile, the parts of the tiles visited are added. -/
theorem loop_t5 (v0 : IVec S256x256 32) (v1 : IVec S256x256 32) (k0_t2 : Fin k0_t2_loop.trips) (arg17 : BitVec 32) (v10 : BitVec 32) (v57 : FVec Ideal S256x256 .f32) (v63 : FVec Ideal S256x256 .f32) (v65 : BitVec 32) (v71 : EReal) (v76 : EReal) (v77 : FVec Ideal S256x256 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty)  (G12 : BufTy.Contents (Elt Ideal) arg12.view.ty) (G14 : BufTy.Contents (Elt Ideal) arg14.view.ty) (G15 : BufTy.Contents (Elt Ideal) arg15.view.ty)
    (hv0 : v0 = fun y => BitVec.ofNat 32 (y 0).val) (hv1 : v1 = fun y => BitVec.ofNat 32 (y 1).val)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (h13 : ∀ d a, arg13.view.read (Elt Ideal) X_arg13 (ix2 d a) = x4 (ix4 0 0 (row (tl k0_t2) a) d))
    (n : ℕ) (hn : n ≤ (k0_t5_loop k0_t2).trips) :
    (∀ r qi d x, rd arg12.view (arg12.view.writes (Elt Ideal) G12 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 n).1) (ix4 r qi d x)
        = rd arg12.view G12 (ix4 r qi d x)
          + if r.val = 1 ∧ k0_t2.val ≤ qi.val ∧ qi.val < k0_t2.val + n then
              ∑ a : Fin 256, x4 (ix4 0 0 (row (tl k0_t2) a) d) * dB v71 v76 x3 x4 x5 x6 lse delta 1 (row (tl k0_t2) a) (row qi x) else 0)
      ∧ (∀ a d, rd arg14.view (arg14.view.writes (Elt Ideal) G14 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 n).2.1) (ix2 a d)
        = rd arg14.view G14 (ix2 a d)
          + tiles k0_t2.val n fun qi => ∑ x : Fin 256, dB v71 v76 x3 x4 x5 x6 lse delta 1 (row (tl k0_t2) a) (row qi x) * x3 (ix4 0 1 (row qi x) d))
      ∧ ∀ a d, rd arg15.view (arg15.view.writes (Elt Ideal) G15 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 n).2.2) (ix2 a d)
        = rd arg15.view G15 (ix2 a d)
          + tiles k0_t2.val n fun qi => ∑ x : Fin 256, pB v71 x3 x4 lse 1 (row (tl k0_t2) a) (row qi x) * x6 (ix4 0 1 (row qi x) d) := by
  induction n with
  | zero =>
    refine ⟨fun r qi d x => ?_, fun a d => ?_, fun a d => ?_⟩
    · rw [if_neg (by omega), add_zero]; rfl
    · rw [tiles_zero, add_zero]; rfl
    · rw [tiles_zero, add_zero]; rfl
  | succ m ih =>
    obtain ⟨i12, i14, i15⟩ := ih (by omega)
    have hj : k0_t2.val < 16 := lt_of_lt_of_eq k0_t2.isLt t2_trips
    have ht := (t35_trips k0_t2).2
    have hjm : k0_t2.val + m < 16 := by omega
    obtain ⟨oq, ol, od, o12, ok⟩ := off5 k0_t2 ⟨m, hn⟩
    dsimp only [] at oq ol od o12
    have hd := diff_eq v0 v1 k0_t2 arg17 ⟨m, by have := (t35_trips k0_t2).1; omega⟩ hv0 hv1
    have eq := trip_t5_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 ⟨m, hn⟩ (arg12.view.writes (Elt Ideal) G12 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 m).1)
      (arg14.view.writes (Elt Ideal) G14 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 m).2.1) (arg15.view.writes (Elt Ideal) G15 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 m).2.2)
    have ez : ∀ r : Fin 2, r.val = 1 → r = 1 := fun r h => Fin.ext h
    let qt : Fin 16 := ⟨k0_t2.val + m, hjm⟩
    have tq : ∀ (x d : Fin 256), View.readAt (Elt Ideal) arg3.view (Rect.unit (s := S1x2x4096x256) (k0_off21 k0_t2 ⟨m, hn⟩) S1x1x256x256.size (k0_off21_inb k0_t2 ⟨m, hn⟩)).toLoadRect X_arg3 (ix4 0 0 x d) = x3 (ix4 0 1 (row qt x) d) := fun x d => by
      rw [← h3]
      refine load_apply arg3.view X_arg3 oq _ _ fun a => ?_
      fin_cases a <;> simp [row, qt]
    have td : ∀ (x d : Fin 256), View.readAt (Elt Ideal) arg6.view (Rect.unit (s := S1x2x4096x256) (k0_off21 k0_t2 ⟨m, hn⟩) S1x1x256x256.size (k0_off21_inb k0_t2 ⟨m, hn⟩)).toLoadRect X_arg6 (ix4 0 0 x d) = x6 (ix4 0 1 (row qt x) d) := fun x d => by
      rw [← h6]
      refine load_apply arg6.view X_arg6 oq _ _ fun a => ?_
      fin_cases a <;> simp [row, qt]
    have tk : ∀ (a d : Fin 256), View.readAt (Elt Ideal) arg4.view (Rect.unit (s := S1x1x4096x256) (k0_off22 k0_t2) S1x1x256x256.size (k0_off22_inb k0_t2)).toLoadRect X_arg4 (ix4 0 0 a d) = x4 (ix4 0 0 (row (tl k0_t2) a) d) := fun x d => by
      rw [← h4]
      refine load_apply arg4.view X_arg4 ok _ _ fun a => ?_
      fin_cases a <;> simp [row, tl]
    have tv : ∀ (a d : Fin 256), View.readAt (Elt Ideal) arg5.view (Rect.unit (s := S1x1x4096x256) (k0_off22 k0_t2) S1x1x256x256.size (k0_off22_inb k0_t2)).toLoadRect X_arg5 (ix4 0 0 a d) = x5 (ix4 0 0 (row (tl k0_t2) a) d) := fun x d => by
      rw [← h5]
      refine load_apply arg5.view X_arg5 ok _ _ fun a => ?_
      fin_cases a <;> simp [row, tl]
    have tl' : ∀ x : Fin 256, View.readAt (Elt Ideal) arg8.view (Rect.unit (s := S1x2x16x256) (k0_off23 k0_t2 ⟨m, hn⟩) S1x1x1x256.size (k0_off23_inb k0_t2 ⟨m, hn⟩)).toLoadRect X_arg8 (ix4 0 0 0 x) = lse 1 (row qt x) := fun x => by
      rw [← h8]
      refine load_apply arg8.view X_arg8 ol _ _ fun a => ?_
      fin_cases a <;> simp [qt]
    have tdl : ∀ x : Fin 256, View.readAt (Elt Ideal) arg16.view (Rect.unit (s := S2x16x256) (k0_off24 k0_t2 ⟨m, hn⟩) S1x1x256.size (k0_off24_inb k0_t2 ⟨m, hn⟩)).toLoadRect X_arg16 (ix3 0 0 x) = delta 1 (row qt x) := fun x => by
      rw [← h16]
      refine load_apply arg16.view X_arg16 od _ _ fun a => ?_
      fin_cases a <;> simp [qt]
    have tds := fun a x => dsT_tile (cs := v71) (cdp := v76) (n := m) (i := qt) (j := tl k0_t2) rfl tq tk tv td tl' tdl a x
    have tp := fun a x => pT_tile (cs := v71) (n := m) (i := qt) (j := tl k0_t2) rfl tq tk tl' a x
    rw [show pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 (m + 1) = _ from pb_k0_t5_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 X_arg3 X_arg4 X_arg5 X_arg6 X_arg8 X_arg13 X_arg16 G12 G14 G15 ⟨m, hn⟩, eq]
    dsimp only [List.cons_append, List.nil_append]
    rw [show k0_pay14 v0 v1 k0_t2 arg17 1#32 ⟨m, _⟩ = diffT m from hd]
    refine ⟨fun r qi d x => ?_, fun a d => ?_, fun a d => ?_⟩
    · refine (store12 arg12.view G12 _ o12 _ _ r qi d x).trans ((congrArg (· + _) (i12 r qi d x)).trans ((add_assoc _ _ _).trans (congrArg (rd arg12.view G12 (ix4 r qi d x) + ·) ?_)))
      by_cases hq : r.val = 1 ∧ qi.val = k0_t2.val + m
      · obtain rfl : qi = qt := Fin.ext hq.2
        rw [if_neg (by omega), zero_add, if_pos hq, if_pos ⟨hq.1, by omega, by omega⟩]
        refine Finset.sum_congr rfl fun a _ => ?_
        rw [tds, ← h13, View.readAt_full]
      · rw [if_neg hq, add_zero]
        exact if_congr (by omega) rfl rfl
    · refine (store14 arg14.view G14 _ _ _ a d).trans ((congrArg (· + _) (i14 a d)).trans ((add_assoc _ _ _).trans (congrArg (rd arg14.view G14 (ix2 a d) + ·) ?_)))
      rw [tiles_succ _ _ hjm]
      exact congrArg _ (Finset.sum_congr rfl fun x _ => by rw [tds, tq])
    · refine (store15 arg15.view G15 _ _ _ a d).trans ((congrArg (· + _) (i15 a d)).trans ((add_assoc _ _ _).trans (congrArg (rd arg15.view G15 (ix2 a d) + ·) ?_)))
      rw [tiles_succ _ _ hjm]
      exact congrArg _ (Finset.sum_congr rfl fun x _ => by rw [tp, td])

end Cert.Proof.KernelIdeal
-- ==== Proof.KernelIdeal.Kv.lean ====
/- What one trip of the loop over the kv tiles writes. -/
module

public import proofs.«01_k».proof.Proof.Gen.KernelIdeal.Loops
public import proofs.«01_k».proof.Proof.KernelIdeal.Trip
public import proofs.«01_k».proof.Proof.KernelIdeal.QLoop
public import proofs.«01_k».proof.Proof.KernelIdeal.Pieces

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

/-- The loop over the q tiles past the window has no trips. -/
theorem pb4_nil (arg1 : BitVec 32) (v0 : IVec S256x256 32) (v1 : IVec S256x256 32) (k0_t2 : Fin k0_t2_loop.trips) (arg17 : BitVec 32) (v10 : BitVec 32) (v20 : FVec Ideal S256x256 .f32) (v21 : FVec Ideal S256x256 .f32) (v23 : BitVec 32) (v29 : EReal) (v34 : EReal) (c8_i32 : BitVec 32) (v50 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty)  (G12 : BufTy.Contents (Elt Ideal) arg12.view.ty) (G14 : BufTy.Contents (Elt Ideal) arg14.view.ty) (G15 : BufTy.Contents (Elt Ideal) arg15.view.ty) (n : ℕ) (hn : n = 0) :
    pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k0_t2 arg17 v10 v20 v21 v23 v29 v34 c8_i32 v50 X_arg3 X_arg4 X_arg5 X_arg6 X_arg8 X_arg13 X_arg16 G12 G14 G15 n = ([], [], []) := by
  subst hn; rfl

/-- The same at head 1. -/
theorem pb6_nil (v0 : IVec S256x256 32) (v1 : IVec S256x256 32) (k0_t2 : Fin k0_t2_loop.trips) (arg17 : BitVec 32) (v10 : BitVec 32) (v57 : FVec Ideal S256x256 .f32) (v63 : FVec Ideal S256x256 .f32) (v65 : BitVec 32) (v71 : EReal) (v76 : EReal) (v77 : FVec Ideal S256x256 .f32) (v92 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg13 : BufTy.Contents (Elt Ideal) arg13.view.ty) (X_arg16 : BufTy.Contents (Elt Ideal) arg16.view.ty)  (G12 : BufTy.Contents (Elt Ideal) arg12.view.ty) (G14 : BufTy.Contents (Elt Ideal) arg14.view.ty) (G15 : BufTy.Contents (Elt Ideal) arg15.view.ty) (n : ℕ) (hn : n = 0) :
    pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k0_t2 arg17 v10 v57 v63 v65 v71 v76 v77 v92 X_arg3 X_arg4 X_arg5 X_arg6 X_arg8 X_arg13 X_arg16 G12 G14 G15 n = ([], [], []) := by
  subst hn; rfl

/-- The pieces the loop over the q tiles writes at head 0 of kv tile `k`, the query gradient's buffer holding `f` before. -/
def L3 (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :=
  pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k (trip.sl.arg17 k) (trip.sl.v9 k) k0_pay69 k0_pay70 (trip.sl.v23 arg1) (trip.sl.r_4 (F := Ideal) i arg2 X_arg2) (trip.sl.r_5 (F := Ideal) i arg2 X_arg2) (8#32) X_arg3 X_arg4 X_arg5 X_arg6 X_arg8 (arg13.view.writes (Elt Ideal) arg13.view.junk (trip.sl.HS_arg13_1 arg4 X_arg4 k)) X_arg16 f (arg14.view.writes (Elt Ideal) arg14.view.junk trip.sl.HS_arg14_1) (arg15.view.writes (Elt Ideal) arg15.view.junk trip.sl.HS_arg15_1) (Scf.trips (k0_t3_loop k).lb (k0_t3_loop k).ub (k0_t3_loop k).st)

/-- The pieces the loop over the q tiles writes at head 1. -/
def L5 (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :=
  pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k (trip.sl.arg17 k) (trip.sl.v9 k) (trip.sl.r_12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f) (trip.sl.r_13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f) (trip.sl.v65 arg1) (trip.sl.r_14 (F := Ideal) i arg2 X_arg2) (trip.sl.r_15 (F := Ideal) i arg2 X_arg2) k0_pay81 X_arg3 X_arg4 X_arg5 X_arg6 X_arg8 (arg13.view.writes (Elt Ideal) arg13.view.junk (trip.sl.HS_arg13_1 arg4 X_arg4 k)) X_arg16 (arg12.view.writes (Elt Ideal) f (L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).1)
    (arg14.view.writes (Elt Ideal) arg14.view.junk (⟨(Rect.unit (s := S256x256) ![0, 0] S256x256.size inb_S256x256_S256x256_0_0), k0_pay82 (F := Ideal) k0_pay81⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1)))
    (arg15.view.writes (Elt Ideal) arg15.view.junk (⟨(Rect.unit (s := S256x256) ![0, 0] S256x256.size inb_S256x256_S256x256_0_0), k0_pay83 (F := Ideal)⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1))) (Scf.trips (k0_t5_loop k).lb (k0_t5_loop k).ub (k0_t5_loop k).st)

/-- The key gradient's accumulator read after the loop at head 0. -/
theorem v51_eq (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :
    trip.sl.v51 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f = arg14.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1) (Rect.unit (s := S256x256) ![0, 0] S256x256.size inb_S256x256_S256x256_0_0).toLoadRect := by
  unfold trip.sl.v51 L3
  rw [pb4_nil (hn := (t46_trips k).1)]
  repeat rw [List.nil_append]

/-- The value gradient's accumulator read after the loop at head 0. -/
theorem v58_eq (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :
    trip.sl.v58 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f = arg15.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1) (Rect.unit (s := S256x256) ![0, 0] S256x256.size inb_S256x256_S256x256_0_0).toLoadRect := by
  unfold trip.sl.v58 L3
  rw [pb4_nil (hn := (t46_trips k).1)]
  repeat rw [List.nil_append]

/-- The key gradient's accumulator read after the loop at head 1. -/
theorem v93_eq (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :
    trip.sl.v93 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f
      = arg14.view.readCov ((L5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ ⟨(Rect.unit (s := S256x256) ![0, 0] S256x256.size inb_S256x256_S256x256_0_0), k0_pay82 (F := Ideal) k0_pay81⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1)) (Rect.unit (s := S256x256) ![0, 0] S256x256.size inb_S256x256_S256x256_0_0).toLoadRect := by
  unfold trip.sl.v93 L5 L3
  rw [pb6_nil (hn := (t46_trips k).2), pb4_nil (hn := (t46_trips k).1)]
  repeat rw [List.nil_append]

/-- The value gradient's accumulator read after the loop at head 1. -/
theorem v100_eq (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :
    trip.sl.v100 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f
      = arg15.view.readCov ((L5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ ⟨(Rect.unit (s := S256x256) ![0, 0] S256x256.size inb_S256x256_S256x256_0_0), k0_pay83 (F := Ideal)⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1)) (Rect.unit (s := S256x256) ![0, 0] S256x256.size inb_S256x256_S256x256_0_0).toLoadRect := by
  unfold trip.sl.v100 L5 L3
  rw [pb6_nil (hn := (t46_trips k).2), pb4_nil (hn := (t46_trips k).1)]
  repeat rw [List.nil_append]

/-- What one trip of the loop over the kv tiles writes: the tile's rows of the key gradient's and of the value
    gradient's block, from what the loops over the q tiles leave in the two accumulators at each head, and those loops'
    own pieces of the query gradient's buffer. -/
theorem kv_eq (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (k : Fin k0_t2_loop.trips) (f : BufTy.Contents (Elt Ideal) arg12.view.ty) :
    (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 f
        = [⟨Rect.unit (s := S1x1x4096x256) (k0_off6 k) S1x1x256x256.size (k0_off6_inb k),
            k0_pay86 (k0_pay77 k0_pay69 (arg14.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1) (Rect.unit (s := S256x256) ![0, 0] S256x256.size inb_S256x256_S256x256_0_0).toLoadRect) (trip.sl.r_6 (F := Ideal) i arg2 X_arg2))
              (arg14.view.readCov ((L5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ ⟨(Rect.unit (s := S256x256) ![0, 0] S256x256.size inb_S256x256_S256x256_0_0), k0_pay82 (F := Ideal) k0_pay81⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1)) (Rect.unit (s := S256x256) ![0, 0] S256x256.size inb_S256x256_S256x256_0_0).toLoadRect) (trip.sl.r_16 (F := Ideal) i arg2 X_arg2)⟩]
      ∧ (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 f
        = [⟨Rect.unit (s := S1x1x4096x256) (k0_off6 k) S1x1x256x256.size (k0_off6_inb k),
            k0_pay3 (k0_pay87 (k0_pay78 k0_pay70 (arg15.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1) (Rect.unit (s := S256x256) ![0, 0] S256x256.size inb_S256x256_S256x256_0_0).toLoadRect) (trip.sl.r_7 (F := Ideal) i arg2 X_arg2))
              (arg15.view.readCov ((L5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ ⟨(Rect.unit (s := S256x256) ![0, 0] S256x256.size inb_S256x256_S256x256_0_0), k0_pay83 (F := Ideal)⟩ :: ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1)) (Rect.unit (s := S256x256) ![0, 0] S256x256.size inb_S256x256_S256x256_0_0).toLoadRect) (trip.sl.r_17 (F := Ideal) i arg2 X_arg2))⟩]
      ∧ (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.1 f
        = (L5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).1 ++ (L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).1 := by
  refine ⟨?_, ?_, ?_⟩
  · rw [← v51_eq, ← v93_eq]; unfold trip; rfl
  · rw [← v58_eq, ← v100_eq]; unfold trip; rfl
  · unfold trip L5 L3
    dsimp only
    rw [pb6_nil (hn := (t46_trips k).2), pb4_nil (hn := (t46_trips k).1)]
    repeat rw [List.nil_append]

end Cert.Proof.KernelIdeal
-- ==== Proof.KernelIdeal.Grad.lean ====
/- The three gradients of one block as sums over all the rows, and the payloads that round them off. -/
module

public import proofs.«01_k».proof.Proof.KernelIdeal.Spec

@[expose] public section

set_option maxRecDepth 16384

noncomputable section

namespace Cert.Proof.KernelIdeal

open Cert.KernelIdeal Cert.KernelIdeal.Gen
open Idealize.ShloMosaic Idealize.ShloMosaic.TcCoe Idealize.SL.Sem

/-- A grid point's group. -/
def gr (i : grid0.Coords) : Fin 8 := ⟨(i 1).val, (i 1).isLt⟩

/-- Head `r` of group `g`. -/
def hd (g : Fin 8) (r : Fin 2) : Fin 16 := ⟨2 * g.val + r.val, by have := g.isLt; have := r.isLt; omega⟩

/-- Group `g`, as a column of the table of scales. -/
def gk (g : Fin 8) : Fin 16 := ⟨g.val, by have := g.isLt; omega⟩

/-- The constant `1 / 16`, as the program has it. -/
def c16 : EReal := Scalar.ofBits (F := Ideal) .f32 0x3D800000#32

/-- The constant `1 / 80`. -/
def c80 : EReal := ((1 / 80 : ℝ) : EReal)

/-- The named word stands for 1/80. -/
theorem named_c80 : Named.named (F := Ideal) (φ := .f32) κ "sm_over_softcap" 0x3C4CCCCD#32 = c80 :=
  IdealRules.named_const.ideal_named_scalar _ _ _ _ rfl

/-- The scale of the scores of head `r`, over the cap: the queries' scale, the keys' and `1 / 80`. -/
def cS (x2 : FVec Ideal S4x16 .f32) (g : Fin 8) (r : Fin 2) : EReal := x2 (ix2 0 (hd g r)) * x2 (ix2 1 (gk g)) * c80

/-- The scale of the probabilities' gradients of head `r`: the output gradient's scale and the values'. -/
def cD (x2 : FVec Ideal S4x16 .f32) (g : Fin 8) (r : Fin 2) : EReal := x2 (ix2 2 (hd g r)) * x2 (ix2 3 (gk g))

section Gradients

variable (x2 : FVec Ideal S4x16 .f32) (x3 : FVec Ideal S1x2x4096x256 .fp8e4m3) (x4 x5 : FVec Ideal S1x1x4096x256 .fp8e4m3)
  (x6 : FVec Ideal S1x2x4096x256 .fp8e5m2) (x7 : FVec Ideal S1x2x4096x256 .bf16) (lse delta : Fin 2 → Fin 4096 → EReal) (g : Fin 8)

/-- The output's gradient times the output, summed over the features. -/
def dlV (r : Fin 2) (q : Fin 4096) : EReal := ∑ d : Fin 256, x6 (ix4 0 r q d) * x2 (ix2 2 (hd g r)) * x7 (ix4 0 r q d)

/-- `dB` at the block's own scales. -/
abbrev dBV (r : Fin 2) (k q : Fin 4096) : EReal := dB (cS x2 g r) (cD x2 g r) x3 x4 x5 x6 lse delta r k q

/-- The query gradient. -/
def dqV (r : Fin 2) (q : Fin 4096) (d : Fin 256) : EReal :=
  (∑ k : Fin 4096, x4 (ix4 0 0 k d) * dBV x2 x3 x4 x5 x6 lse delta g r k q) * (x2 (ix2 1 (gk g)) * c16)

/-- The key gradient, both heads'. -/
def dkV (k : Fin 4096) (d : Fin 256) : EReal :=
  0 + (∑ q : Fin 4096, dBV x2 x3 x4 x5 x6 lse delta g 0 k q * x3 (ix4 0 0 q d)) * (x2 (ix2 0 (hd g 0)) * c16)
    + (∑ q : Fin 4096, dBV x2 x3 x4 x5 x6 lse delta g 1 k q * x3 (ix4 0 1 q d)) * (x2 (ix2 0 (hd g 1)) * c16)

/-- The value gradient, both heads'. -/
def dvV (k : Fin 4096) (d : Fin 256) : EReal :=
  0 + (∑ q : Fin 4096, pB (cS x2 g 0) x3 x4 lse 0 k q * x6 (ix4 0 0 q d)) * x2 (ix2 2 (hd g 0))
    + (∑ q : Fin 4096, pB (cS x2 g 1) x3 x4 lse 1 k q * x6 (ix4 0 1 q d)) * x2 (ix2 2 (hd g 1))

end Gradients

/-- The tiles that one kv tile's loop goes through hold every row in its window. -/
theorem tiles_window (j : Fin 16) (n : ℕ) (hn : n = min 9 (16 - j.val)) (a : Fin 256) (f : Fin 4096 → EReal)
    (hf : ∀ q : Fin 4096, ¬ ((row j a).val ≤ q.val ∧ q.val < (row j a).val + 2048) → f q = 0) :
    tiles j.val n (fun i => ∑ x : Fin 256, f (row i x)) = ∑ q, f q := by
  rw [sum_rows, tiles_all]
  intro i hi
  refine Finset.sum_eq_zero fun x _ => hf _ ?_
  simp only [row]
  have := a.isLt; have := x.isLt; have := i.isLt; have := j.isLt
  omega

/-- A tile outside the window has no part in the query gradient. -/
theorem tile_window (j i : Fin 16) (n : ℕ) (hn : n = min 9 (16 - j.val)) (x : Fin 256) (f g : Fin 256 → EReal)
    (hf : ∀ a : Fin 256, ¬ ((row j a).val ≤ (row i x).val ∧ (row i x).val < (row j a).val + 2048) → f a = 0) :
    (if j.val ≤ i.val ∧ i.val < j.val + n then ∑ a, g a * f a else 0) = ∑ a, g a * f a := by
  by_cases hc : j.val ≤ i.val ∧ i.val < j.val + n
  · exact if_pos hc
  · rw [if_neg hc]
    refine (Finset.sum_eq_zero fun a _ => ?_).symm
    rw [hf a, mul_zero]
    simp only [row]
    have := a.isLt; have := x.isLt; have := i.isLt; have := j.isLt
    omega

/-- The kept copy of a key tile is its transpose. -/
theorem pay68_apply (k : FVec Ideal S1x1x256x256 .fp8e4m3) (d a : Fin 256) : k0_pay68 (F := Ideal) k (ix2 d a) = k (ix4 0 0 a d) := by
  pointwise [k0_pay68]

/-- A cleared accumulator is zero. -/
theorem pay73_apply (a d : Fin 256) : k0_pay73 (F := Ideal) (ix2 a d) = (0 : EReal) := by pointwise [k0_pay73]

/-- A cleared accumulator is zero. -/
theorem pay74_apply (a d : Fin 256) : k0_pay74 (F := Ideal) (ix2 a d) = (0 : EReal) := by pointwise [k0_pay74]

/-- A cleared accumulator is zero. -/
theorem pay82_apply (a d : Fin 256) : k0_pay82 (F := Ideal) k0_pay81 (ix2 a d) = (0 : EReal) := by pointwise [k0_pay82, k0_pay81]

/-- A cleared accumulator is zero. -/
theorem pay83_apply (a d : Fin 256) : k0_pay83 (F := Ideal) (ix2 a d) = (0 : EReal) := by pointwise [k0_pay83]

/-- The key gradient's rows from the two accumulators. -/
theorem pay86_apply (u w : FVec Ideal S256x256 .f32) (s t : EReal) (a d : Fin 256) :
    k0_pay86 (F := Ideal) (k0_pay77 k0_pay69 u s) w t (ix4 0 0 a d) = 0 + u (ix2 a d) * (s * c16) + w (ix2 a d) * (t * c16) := by
  unfold c16
  pointwise [k0_pay86, k0_pay77, k0_pay69]

/-- The value gradient's rows from the two accumulators. -/
theorem pay87_apply (u w : FVec Ideal S256x256 .f32) (s t : EReal) (a d : Fin 256) :
    k0_pay3 (F := Ideal) (k0_pay87 (k0_pay78 k0_pay70 u s) w t) (ix4 0 0 a d) = 0 + u (ix2 a d) * s + w (ix2 a d) * t := by
  pointwise [k0_pay3, k0_pay87, k0_pay78, k0_pay70]

/-- The query gradient's rows from its accumulator, head 0. -/
theorem pay4_apply (u : FVec Ideal S1x1x256x256 .f32) (s : EReal) (x d : Fin 256) :
    k0_pay4 (F := Ideal) u s (ix4 0 0 x d) = u (ix4 0 0 d x) * (s * c16) := by
  unfold c16
  pointwise [k0_pay4]

/-- The query gradient's rows from its accumulator, head 1. -/
theorem pay5_apply (u : FVec Ideal S1x1x256x256 .f32) (s : EReal) (x d : Fin 256) :
    k0_pay5 (F := Ideal) u s (ix4 0 0 x d) = u (ix4 0 0 d x) * (s * c16) := by
  unfold c16
  pointwise [k0_pay5]

/-- The row sums of one tile, head 0. -/
theorem pay6_apply (s : EReal) (u : FVec Ideal S1x1x256x256 .fp8e5m2) (w : FVec Ideal S1x1x256x256 .bf16) (x : Fin 256) :
    k0_pay6 (F := Ideal) s u w (ix3 0 0 x) = ∑ d : Fin 256, u (ix4 0 0 x d) * s * w (ix4 0 0 x d) := by
  pointwise [k0_pay6]

/-- The row sums of one tile, head 1. -/
theorem pay2_apply (s : EReal) (u : FVec Ideal S1x1x256x256 .fp8e5m2) (w : FVec Ideal S1x1x256x256 .bf16) (x : Fin 256) :
    k0_pay2 (F := Ideal) (k0_pay7 s u) w (ix3 0 0 x) = ∑ d : Fin 256, u (ix4 0 0 x d) * s * w (ix4 0 0 x d) := by
  pointwise [k0_pay2, k0_pay7]

/-- A read of a whole buffer after two lists of stores is what the second leaves of what the first left. -/
theorem readCov_append {sp : Space} {s : Shape} (v : View sig .tc sp s .f32) (L M : List (View.Piece (Elt Ideal) s .f32))
    {off : Fin s.rank → ℕ} (inb : ∀ a, off a + s.size a ≤ s.size a) (y : s.Idx) :
    v.readCov (L ++ M) (Rect.unit off s.size inb).toLoadRect y = rd v (v.writes (Elt Ideal) (v.writes (Elt Ideal) v.junk M) L) y := by
  unfold View.readCov
  rw [View.readAt_full, View.writes_append]

/-- A scale read from its table. -/
theorem scal_apply {x2 : FVec Ideal S4x16 .f32} (v : View sig .tc .smem S4x16 .f32) (f : v.ty.Contents (Elt Ideal)) (h2 : v.read (Elt Ideal) f = x2)
    {off : Fin 2 → ℕ} {inb : ∀ a, off a + S1x1.size a ≤ S4x16.size a} (a : Fin 4) (b : Fin 16) (h : off = ![a.val, b.val])
    (y : (Rect.unit (s := S4x16) off S1x1.size inb).shape.Idx) :
    v.readAt (Elt Ideal) (Rect.unit (s := S4x16) off S1x1.size inb).toLoadRect f y = x2 (ix2 a b) := by
  subst h2
  refine load_apply v f h y (ix2 a b) fun z => ?_
  have : (y z).val = 0 := by
    have := (y z).isLt
    fin_cases z <;> exact Nat.lt_one_iff.mp this
  rw [this]
  fin_cases z <;> rfl

end Cert.Proof.KernelIdeal
-- ==== Proof.KernelIdeal.KvVal.lean ====
/- What one trip of the loop over the kv tiles leaves, as numbers. -/
module

public import proofs.«01_k».proof.Proof.Gen.KernelIdeal.Loops
public import proofs.«01_k».proof.Proof.KernelIdeal.Trip
public import proofs.«01_k».proof.Proof.KernelIdeal.Kv
public import proofs.«01_k».proof.Proof.KernelIdeal.Grad

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

variable {x2 : FVec Ideal S4x16 .f32} {x3 : FVec Ideal S1x2x4096x256 .fp8e4m3} {x4 x5 : FVec Ideal S1x1x4096x256 .fp8e4m3} {x6 : FVec Ideal S1x2x4096x256 .fp8e5m2}
  {lse delta : Fin 2 → Fin 4096 → EReal}

/-- The scales that one trip reads, and their products. -/
theorem scales (X_arg2 : BufTy.Contents (Elt Ideal) arg2.view.ty) (h2 : arg2.view.read (Elt Ideal) X_arg2 = x2) :
    (trip.sl.r_4 (F := Ideal) i arg2 X_arg2 = cS x2 (gr i) 0 ∧ trip.sl.r_5 (F := Ideal) i arg2 X_arg2 = cD x2 (gr i) 0)
      ∧ (trip.sl.r_14 (F := Ideal) i arg2 X_arg2 = cS x2 (gr i) 1 ∧ trip.sl.r_15 (F := Ideal) i arg2 X_arg2 = cD x2 (gr i) 1)
      ∧ (trip.sl.r_6 (F := Ideal) i arg2 X_arg2 = x2 (ix2 0 (hd (gr i) 0)) ∧ trip.sl.r_16 (F := Ideal) i arg2 X_arg2 = x2 (ix2 0 (hd (gr i) 1)))
      ∧ trip.sl.r_7 (F := Ideal) i arg2 X_arg2 = x2 (ix2 2 (hd (gr i) 0)) ∧ trip.sl.r_17 (F := Ideal) i arg2 X_arg2 = x2 (ix2 2 (hd (gr i) 1)) := by
  have q (r : Fin 2) y := scal_apply arg2.view X_arg2 h2 (inb := k0_off7_inb i r) 0 (hd (gr i) r) (k0_off7_eq i r) y
  have o (r : Fin 2) y := scal_apply arg2.view X_arg2 h2 (inb := k0_off9_inb i r) 2 (hd (gr i) r) (k0_off9_eq i r) y
  have k y := scal_apply arg2.view X_arg2 h2 (inb := k0_off8_inb i) 1 (gk (gr i)) (k0_off8_eq i) y
  have v y := scal_apply arg2.view X_arg2 h2 (inb := k0_off10_inb i) 3 (gk (gr i)) (k0_off10_eq i) y
  refine ⟨⟨?_, ?_⟩, ⟨?_, ?_⟩, ⟨q 0 _, q 1 _⟩, o 0 _, o 1 _⟩
  · exact congrArg₂ (· * ·) (congrArg₂ (· * ·) (q 0 _) (k _)) named_c80
  · exact congrArg₂ (· * ·) (o 0 _) (v _)
  · exact congrArg₂ (· * ·) (congrArg₂ (· * ·) (q 1 _) (k _)) named_c80
  · exact congrArg₂ (· * ·) (o 1 _) (v _)

/-- What the loop over the q tiles leaves at head 0: the query gradient's buffer has the kv tile's part added at head 0,
    the two accumulators hold the sums over all the query rows. -/
theorem head0 (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (hv0 : v0 = fun y => BitVec.ofNat 32 (y 0).val) (hv1 : v1 = fun y => BitVec.ofNat 32 (y 1).val)
    (h2 : arg2.view.read (Elt Ideal) X_arg2 = x2)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (k : Fin k0_t2_loop.trips) (f : BufTy.Contents (Elt Ideal) arg12.view.ty) :
    (∀ r qi d x, rd arg12.view (arg12.view.writes (Elt Ideal) f (L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).1) (ix4 r qi d x)
        = rd arg12.view f (ix4 r qi d x)
          + if r.val = 0 then ∑ a : Fin 256, x4 (ix4 0 0 (row (tl k) a) d) * dBV x2 x3 x4 x5 x6 lse delta (gr i) 0 (row (tl k) a) (row qi x) else 0)
      ∧ (∀ a d, arg14.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1) (Rect.unit (s := S256x256) ![0, 0] S256x256.size inb_S256x256_S256x256_0_0).toLoadRect (ix2 a d)
        = ∑ q, dBV x2 x3 x4 x5 x6 lse delta (gr i) 0 (row (tl k) a) q * x3 (ix4 0 0 q d))
      ∧ ∀ a d, arg15.view.readCov ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1) (Rect.unit (s := S256x256) ![0, 0] S256x256.size inb_S256x256_S256x256_0_0).toLoadRect (ix2 a d)
        = ∑ q, pB (cS x2 (gr i) 0) x3 x4 lse 0 (row (tl k) a) q * x6 (ix4 0 0 q d) := by
  unfold L3
  obtain ⟨⟨e1, e2⟩, -⟩ := scales i arg2 X_arg2 h2
  have h13 : ∀ d a, arg13.view.read (Elt Ideal) (arg13.view.writes (Elt Ideal) arg13.view.junk (trip.sl.HS_arg13_1 arg4 X_arg4 k)) (ix2 d a) = x4 (ix4 0 0 (row (tl k) a) d) := fun d a => by
    unfold trip.sl.HS_arg13_1
    rw [View.read_writes_full, ← h4]
    refine (pay68_apply _ d a).trans (load_apply arg4.view X_arg4 (k0_off6_eq k) _ _ fun z => ?_)
    fin_cases z <;> simp [row, tl, mul_comm]
  have hn : (Scf.trips (k0_t3_loop k).lb (k0_t3_loop k).ub (k0_t3_loop k).st) = min 9 (16 - (tl k).val) := (t35_trips k).1
  obtain ⟨a12, a14, a15⟩ := loop_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 k (trip.sl.arg17 k) (trip.sl.v9 k) k0_pay69 k0_pay70 (trip.sl.v23 arg1) (trip.sl.r_4 (F := Ideal) i arg2 X_arg2) (trip.sl.r_5 (F := Ideal) i arg2 X_arg2) (8#32) X_arg3 X_arg4 X_arg5 X_arg6 X_arg8 (arg13.view.writes (Elt Ideal) arg13.view.junk (trip.sl.HS_arg13_1 arg4 X_arg4 k)) X_arg16 f
    (arg14.view.writes (Elt Ideal) arg14.view.junk trip.sl.HS_arg14_1) (arg15.view.writes (Elt Ideal) arg15.view.junk trip.sl.HS_arg15_1)
    hv0 hv1 h3 h4 h5 h6 h8 h16 h13 (Scf.trips (k0_t3_loop k).lb (k0_t3_loop k).ub (k0_t3_loop k).st) le_rfl
  refine ⟨fun r qi d x => ?_, fun a d => ?_, fun a d => ?_⟩
  · refine (a12 r qi d x).trans (congrArg (_ + ·) ?_)
    rw [e1, e2]
    by_cases hr : r.val = 0
    · rw [if_pos hr]
      exact (if_congr (by simp [hr, tl]) rfl rfl).trans (tile_window (tl k) qi _ hn x _ _ fun a h => dB_out h)
    · rw [if_neg hr, if_neg fun h => hr h.1]
  · rw [readCov_append]
    refine (a14 a d).trans ?_
    rw [e1, e2]
    unfold trip.sl.HS_arg14_1
    rw [rd, View.read_writes_full]
    refine (congrArg (· + _) (pay73_apply a d)).trans ((zero_add _).trans ?_)
    exact tiles_window (tl k) _ hn a (fun q => dBV x2 x3 x4 x5 x6 lse delta (gr i) 0 (row (tl k) a) q * x3 (ix4 0 0 q d)) fun q h => (congrArg (· * _) (dB_out h)).trans (zero_mul _)
  · rw [readCov_append]
    refine (a15 a d).trans ?_
    rw [e1]
    unfold trip.sl.HS_arg15_1
    rw [rd, View.read_writes_full]
    refine (congrArg (· + _) (pay74_apply a d)).trans ((zero_add _).trans ?_)
    exact tiles_window (tl k) _ hn a (fun q => pB (cS x2 (gr i) 0) x3 x4 lse 0 (row (tl k) a) q * x6 (ix4 0 0 q d)) fun q h => by rw [pB_out h, zero_mul]

/-- The same at head 1, over whatever head 0 left. -/
theorem head1 (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (hv0 : v0 = fun y => BitVec.ofNat 32 (y 0).val) (hv1 : v1 = fun y => BitVec.ofNat 32 (y 1).val)
    (h2 : arg2.view.read (Elt Ideal) X_arg2 = x2)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (k : Fin k0_t2_loop.trips) (f : BufTy.Contents (Elt Ideal) arg12.view.ty) (u w : FVec Ideal S256x256 .f32) (M14 M15 : List (View.Piece (Elt Ideal) S256x256 .f32)) :
    (∀ r qi d x, rd arg12.view (arg12.view.writes (Elt Ideal) f (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k (trip.sl.arg17 k) (trip.sl.v9 k) u w (trip.sl.v65 arg1) (trip.sl.r_14 (F := Ideal) i arg2 X_arg2) (trip.sl.r_15 (F := Ideal) i arg2 X_arg2) k0_pay81 X_arg3 X_arg4 X_arg5 X_arg6 X_arg8 (arg13.view.writes (Elt Ideal) arg13.view.junk (trip.sl.HS_arg13_1 arg4 X_arg4 k)) X_arg16 f
      (arg14.view.writes (Elt Ideal) arg14.view.junk (⟨(Rect.unit (s := S256x256) ![0, 0] S256x256.size inb_S256x256_S256x256_0_0), k0_pay82 (F := Ideal) k0_pay81⟩ :: M14)) (arg15.view.writes (Elt Ideal) arg15.view.junk (⟨(Rect.unit (s := S256x256) ![0, 0] S256x256.size inb_S256x256_S256x256_0_0), k0_pay83 (F := Ideal)⟩ :: M15)) (Scf.trips (k0_t5_loop k).lb (k0_t5_loop k).ub (k0_t5_loop k).st)).1) (ix4 r qi d x)
        = rd arg12.view f (ix4 r qi d x)
          + if r.val = 1 then ∑ a : Fin 256, x4 (ix4 0 0 (row (tl k) a) d) * dBV x2 x3 x4 x5 x6 lse delta (gr i) 1 (row (tl k) a) (row qi x) else 0)
      ∧ (∀ a d, arg14.view.readCov ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k (trip.sl.arg17 k) (trip.sl.v9 k) u w (trip.sl.v65 arg1) (trip.sl.r_14 (F := Ideal) i arg2 X_arg2) (trip.sl.r_15 (F := Ideal) i arg2 X_arg2) k0_pay81 X_arg3 X_arg4 X_arg5 X_arg6 X_arg8 (arg13.view.writes (Elt Ideal) arg13.view.junk (trip.sl.HS_arg13_1 arg4 X_arg4 k)) X_arg16 f
      (arg14.view.writes (Elt Ideal) arg14.view.junk (⟨(Rect.unit (s := S256x256) ![0, 0] S256x256.size inb_S256x256_S256x256_0_0), k0_pay82 (F := Ideal) k0_pay81⟩ :: M14)) (arg15.view.writes (Elt Ideal) arg15.view.junk (⟨(Rect.unit (s := S256x256) ![0, 0] S256x256.size inb_S256x256_S256x256_0_0), k0_pay83 (F := Ideal)⟩ :: M15)) (Scf.trips (k0_t5_loop k).lb (k0_t5_loop k).ub (k0_t5_loop k).st)).2.1 ++ ⟨(Rect.unit (s := S256x256) ![0, 0] S256x256.size inb_S256x256_S256x256_0_0), k0_pay82 (F := Ideal) k0_pay81⟩ :: M14) (Rect.unit (s := S256x256) ![0, 0] S256x256.size inb_S256x256_S256x256_0_0).toLoadRect (ix2 a d)
        = ∑ q, dBV x2 x3 x4 x5 x6 lse delta (gr i) 1 (row (tl k) a) q * x3 (ix4 0 1 q d))
      ∧ ∀ a d, arg15.view.readCov ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k (trip.sl.arg17 k) (trip.sl.v9 k) u w (trip.sl.v65 arg1) (trip.sl.r_14 (F := Ideal) i arg2 X_arg2) (trip.sl.r_15 (F := Ideal) i arg2 X_arg2) k0_pay81 X_arg3 X_arg4 X_arg5 X_arg6 X_arg8 (arg13.view.writes (Elt Ideal) arg13.view.junk (trip.sl.HS_arg13_1 arg4 X_arg4 k)) X_arg16 f
      (arg14.view.writes (Elt Ideal) arg14.view.junk (⟨(Rect.unit (s := S256x256) ![0, 0] S256x256.size inb_S256x256_S256x256_0_0), k0_pay82 (F := Ideal) k0_pay81⟩ :: M14)) (arg15.view.writes (Elt Ideal) arg15.view.junk (⟨(Rect.unit (s := S256x256) ![0, 0] S256x256.size inb_S256x256_S256x256_0_0), k0_pay83 (F := Ideal)⟩ :: M15)) (Scf.trips (k0_t5_loop k).lb (k0_t5_loop k).ub (k0_t5_loop k).st)).2.2 ++ ⟨(Rect.unit (s := S256x256) ![0, 0] S256x256.size inb_S256x256_S256x256_0_0), k0_pay83 (F := Ideal)⟩ :: M15) (Rect.unit (s := S256x256) ![0, 0] S256x256.size inb_S256x256_S256x256_0_0).toLoadRect (ix2 a d)
        = ∑ q, pB (cS x2 (gr i) 1) x3 x4 lse 1 (row (tl k) a) q * x6 (ix4 0 1 q d) := by
  obtain ⟨-, ⟨e1, e2⟩, -⟩ := scales i arg2 X_arg2 h2
  have h13 : ∀ d a, arg13.view.read (Elt Ideal) (arg13.view.writes (Elt Ideal) arg13.view.junk (trip.sl.HS_arg13_1 arg4 X_arg4 k)) (ix2 d a) = x4 (ix4 0 0 (row (tl k) a) d) := fun d a => by
    unfold trip.sl.HS_arg13_1
    rw [View.read_writes_full, ← h4]
    refine (pay68_apply _ d a).trans (load_apply arg4.view X_arg4 (k0_off6_eq k) _ _ fun z => ?_)
    fin_cases z <;> simp [row, tl, mul_comm]
  have hn : (Scf.trips (k0_t5_loop k).lb (k0_t5_loop k).ub (k0_t5_loop k).st) = min 9 (16 - (tl k).val) := (t35_trips k).2
  obtain ⟨a12, a14, a15⟩ := loop_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 k (trip.sl.arg17 k) (trip.sl.v9 k) u w (trip.sl.v65 arg1) (trip.sl.r_14 (F := Ideal) i arg2 X_arg2) (trip.sl.r_15 (F := Ideal) i arg2 X_arg2) k0_pay81 X_arg3 X_arg4 X_arg5 X_arg6 X_arg8 (arg13.view.writes (Elt Ideal) arg13.view.junk (trip.sl.HS_arg13_1 arg4 X_arg4 k)) X_arg16 f
    (arg14.view.writes (Elt Ideal) arg14.view.junk (⟨(Rect.unit (s := S256x256) ![0, 0] S256x256.size inb_S256x256_S256x256_0_0), k0_pay82 (F := Ideal) k0_pay81⟩ :: M14))
    (arg15.view.writes (Elt Ideal) arg15.view.junk (⟨(Rect.unit (s := S256x256) ![0, 0] S256x256.size inb_S256x256_S256x256_0_0), k0_pay83 (F := Ideal)⟩ :: M15))
    hv0 hv1 h3 h4 h5 h6 h8 h16 h13 (Scf.trips (k0_t5_loop k).lb (k0_t5_loop k).ub (k0_t5_loop k).st) le_rfl
  refine ⟨fun r qi d x => ?_, fun a d => ?_, fun a d => ?_⟩
  · refine (a12 r qi d x).trans (congrArg (_ + ·) ?_)
    rw [e1, e2]
    by_cases hr : r.val = 1
    · rw [if_pos hr]
      exact (if_congr (by simp [hr, tl]) rfl rfl).trans (tile_window (tl k) qi _ hn x _ _ fun a h => dB_out h)
    · rw [if_neg hr, if_neg fun h => hr h.1]
  · rw [readCov_append]
    refine (a14 a d).trans ?_
    rw [rd, View.read_writes_full, e1, e2]
    refine (congrArg (· + _) (pay82_apply a d)).trans ((zero_add _).trans ?_)
    exact tiles_window (tl k) _ hn a (fun q => dBV x2 x3 x4 x5 x6 lse delta (gr i) 1 (row (tl k) a) q * x3 (ix4 0 1 q d)) fun q h => (congrArg (· * _) (dB_out h)).trans (zero_mul _)
  · rw [readCov_append]
    refine (a15 a d).trans ?_
    rw [rd, View.read_writes_full, e1]
    refine (congrArg (· + _) (pay83_apply a d)).trans ((zero_add _).trans ?_)
    exact tiles_window (tl k) _ hn a (fun q => pB (cS x2 (gr i) 1) x3 x4 lse 1 (row (tl k) a) q * x6 (ix4 0 1 q d)) fun q h => by rw [pB_out h, zero_mul]

/-- One trip of the loop over the kv tiles: the tile's rows of the key gradient and of the value gradient are written, and
    the tile's part of the query gradient is added. -/
theorem trip_val (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (hv0 : v0 = fun y => BitVec.ofNat 32 (y 0).val) (hv1 : v1 = fun y => BitVec.ofNat 32 (y 1).val)
    (h2 : arg2.view.read (Elt Ideal) X_arg2 = x2)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (k : Fin k0_t2_loop.trips) (f : BufTy.Contents (Elt Ideal) arg12.view.ty) :
    (∃ w : (Rect.unit (s := S1x1x4096x256) (k0_off6 k) S1x1x256x256.size (k0_off6_inb k)).shape.Idx → Elt Ideal .bf16,
        (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).1 f = [⟨Rect.unit (s := S1x1x4096x256) (k0_off6 k) S1x1x256x256.size (k0_off6_inb k), w⟩] ∧ ∀ a d : Fin 256, w (ix4 0 0 a d) = dkV x2 x3 x4 x5 x6 lse delta (gr i) (row (tl k) a) d)
      ∧ (∃ w : (Rect.unit (s := S1x1x4096x256) (k0_off6 k) S1x1x256x256.size (k0_off6_inb k)).shape.Idx → Elt Ideal .bf16,
        (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.1 f = [⟨Rect.unit (s := S1x1x4096x256) (k0_off6 k) S1x1x256x256.size (k0_off6_inb k), w⟩] ∧ ∀ a d : Fin 256, w (ix4 0 0 a d) = dvV x2 x3 x4 x6 lse (gr i) (row (tl k) a) d)
      ∧ ∀ r qi d x, rd arg12.view (arg12.view.writes (Elt Ideal) f ((trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k).2.2.1 f)) (ix4 r qi d x)
        = rd arg12.view f (ix4 r qi d x) + ∑ a : Fin 256, x4 (ix4 0 0 (row (tl k) a) d) * dBV x2 x3 x4 x5 x6 lse delta (gr i) r (row (tl k) a) (row qi x) := by
  obtain ⟨e10, e11, e12⟩ := kv_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f
  obtain ⟨-, -, ⟨q0, q1⟩, o0, o1⟩ := scales i arg2 X_arg2 h2
  obtain ⟨a12, a14, a15⟩ := head0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 hv0 hv1 h2 h3 h4 h5 h6 h8 h16 k f
  have hb := head1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 hv0 hv1 h2 h3 h4 h5 h6 h8 h16 k (arg12.view.writes (Elt Ideal) f (L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).1)
    (trip.sl.r_12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f) (trip.sl.r_13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f) ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.1 ++ trip.sl.HS_arg14_1) ((L3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f).2.2 ++ trip.sl.HS_arg15_1)
  rw [← L5.eq_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 k f] at hb
  obtain ⟨b12, b14, b15⟩ := hb
  refine ⟨⟨_, e10, fun a d => ?_⟩, ⟨_, e11, fun a d => ?_⟩, fun r qi d x => ?_⟩
  · rw [q0, q1, dkV, ← a14, ← b14]
    exact pay86_apply _ _ _ _ a d
  · rw [o0, o1, dvV, ← a15, ← b15]
    exact pay87_apply _ _ _ _ a d
  · rw [e12, View.writes_append]
    refine (b12 r qi d x).trans ((congrArg (· + _) (a12 r qi d x)).trans ((add_assoc _ _ _).trans (congrArg (_ + ·) ?_)))
    fin_cases r
    · exact add_zero _
    · exact zero_add _

end Cert.Proof.KernelIdeal
-- ==== Proof.KernelIdeal.Sums.lean ====
/- What the loop over the row blocks leaves in the row sums' buffer, as numbers. -/
module

public import proofs.«01_k».proof.Proof.Gen.KernelIdeal.Loops
public import proofs.«01_k».proof.Proof.KernelIdeal.Pieces
public import proofs.«01_k».proof.Proof.KernelIdeal.Grad

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

variable {x2 : FVec Ideal S4x16 .f32} {x6 : FVec Ideal S1x2x4096x256 .fp8e5m2} {x7 : FVec Ideal S1x2x4096x256 .bf16}

/-- A row block's number among the sixteen. -/
def t1 (k : Fin k0_t1_loop.trips) : Fin 16 := ⟨k.val, lt_of_lt_of_eq k.isLt (by decide +kernel)⟩

/-- One trip writes one row block's sums at each head. -/
theorem sums_trip (X_arg2 : BufTy.Contents (Elt Ideal) arg2.view.ty) (X_arg6 : BufTy.Contents (Elt Ideal) arg6.view.ty) (X_arg7 : BufTy.Contents (Elt Ideal) arg7.view.ty) (h2 : arg2.view.read (Elt Ideal) X_arg2 = x2) (h6 : arg6.view.read (Elt Ideal) X_arg6 = x6) (h7 : arg7.view.read (Elt Ideal) X_arg7 = x7) (k : Fin k0_t1_loop.trips) :
    ∃ w1 w0 : S1x1x256.Idx → EReal, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 k).1
        = [⟨Rect.unit (s := S2x16x256) (k0_off5 k) S1x1x256.size (k0_off5_inb k), w1⟩, ⟨Rect.unit (s := S2x16x256) (k0_off3 k) S1x1x256.size (k0_off3_inb k), w0⟩]
      ∧ (∀ x, w1 (ix3 0 0 x) = dlV x2 x6 x7 (gr i) 1 (row (t1 k) x)) ∧ ∀ x, w0 (ix3 0 0 x) = dlV x2 x6 x7 (gr i) 0 (row (t1 k) x) := by
  subst h6 h7
  have o (r : Fin 2) y := scal_apply arg2.view X_arg2 h2 (inb := k0_off1_inb i r) 2 (hd (gr i) r) (k0_off1_eq i r) y
  unfold trip_k0_t1
  refine ⟨_, _, rfl, fun x => ?_, fun x => ?_⟩
  · refine (pay2_apply _ _ _ x).trans (Finset.sum_congr rfl fun d _ => ?_)
    exact congrArg₂ (· * ·) (congrArg₂ (· * ·) (load_apply arg6.view X_arg6 (k0_off4_eq k) (ix4 0 0 x d : S1x1x256x256.Idx) (ix4 0 1 (row (t1 k) x) d) fun a => by fin_cases a <;> simp [row, t1, mul_comm]) (o 1 _)) (load_apply arg7.view X_arg7 (k0_off4_eq k) (ix4 0 0 x d : S1x1x256x256.Idx) (ix4 0 1 (row (t1 k) x) d) fun a => by fin_cases a <;> simp [row, t1, mul_comm])
  · refine (pay6_apply _ _ _ x).trans (Finset.sum_congr rfl fun d _ => ?_)
    exact congrArg₂ (· * ·) (congrArg₂ (· * ·) (load_apply arg6.view X_arg6 (k0_off2_eq k) (ix4 0 0 x d : S1x1x256x256.Idx) (ix4 0 0 (row (t1 k) x) d) fun a => by fin_cases a <;> simp [row, t1, mul_comm]) (o 0 _)) (load_apply arg7.view X_arg7 (k0_off2_eq k) (ix4 0 0 x d : S1x1x256x256.Idx) (ix4 0 0 (row (t1 k) x) d) fun a => by fin_cases a <;> simp [row, t1, mul_comm])

/-- After the trips before `n`, the row blocks below `n` hold their sums. -/
theorem sums_val (X_arg2 : BufTy.Contents (Elt Ideal) arg2.view.ty) (X_arg6 : BufTy.Contents (Elt Ideal) arg6.view.ty) (X_arg7 : BufTy.Contents (Elt Ideal) arg7.view.ty) (h2 : arg2.view.read (Elt Ideal) X_arg2 = x2) (h6 : arg6.view.read (Elt Ideal) X_arg6 = x6) (h7 : arg7.view.read (Elt Ideal) X_arg7 = x7) (f : BufTy.Contents (Elt Ideal) arg16.view.ty) (n : ℕ) (hn : n ≤ k0_t1_loop.trips) (r : Fin 2) (qi : Fin 16) (x : Fin 256)
    (hq : qi.val < n) :
    arg16.view.read (Elt Ideal) (arg16.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 n)) (ix3 r qi x) = dlV x2 x6 x7 (gr i) r (row qi x) := by
  induction n with
  | zero => omega
  | succ m ih =>
    obtain ⟨w1, w0, e, e1, e0⟩ := sums_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 h2 h6 h7 ⟨m, hn⟩
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 (m + 1)) = _ from pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg6 X_arg7 ⟨m, hn⟩, tripL_k0_t1, e]
    dsimp only [List.cons_append, List.nil_append]
    have o1 := k0_off5_eq ⟨m, hn⟩
    have o0 := k0_off3_eq ⟨m, hn⟩
    by_cases hm : qi.val = m
    · obtain rfl : qi = t1 ⟨m, hn⟩ := Fin.ext hm
      obtain rfl | rfl : r = 1 ∨ r = 0 := by omega
      · rw [← e1 x]
        exact View.read_writes_cons_unit_of_mem arg16.view f _ w1 _ _ (ix3 0 0 x : S1x1x256.Idx) o1 fun a => by fin_cases a <;> simp [t1]
      · rw [← e0 x]
        refine (View.read_writes_cons_unit_of_not_mem arg16.view f _ w1 _ _ o1 0 (Or.inl (by simp))).trans ?_
        exact View.read_writes_cons_unit_of_mem arg16.view f _ w0 _ _ (ix3 0 0 x : S1x1x256.Idx) o0 fun a => by fin_cases a <;> simp [t1]
    · have hl : qi.val < m := by omega
      refine (View.read_writes_cons_unit_of_not_mem arg16.view f _ w1 _ _ o1 1 (Or.inl hl)).trans ?_
      refine (View.read_writes_cons_unit_of_not_mem arg16.view f _ w0 _ _ o0 1 (Or.inl hl)).trans ?_
      exact ih (by omega) hl

end Cert.Proof.KernelIdeal
-- ==== Proof.KernelIdeal.Block.lean ====
/- What the body leaves in the three output blocks, as numbers. -/
module

public import proofs.«01_k».proof.Proof.Gen.KernelIdeal.Loops
public import proofs.«01_k».proof.Proof.KernelIdeal.Trip
public import proofs.«01_k».proof.Proof.KernelIdeal.KvVal
public import proofs.«01_k».proof.Proof.KernelIdeal.Sums
public import proofs.«01_k».proof.Proof.KernelIdeal.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (i : grid0.Coords)
variable (arg2 : Memref sig .tc .smem S4x16 .f32) (harg2 : arg2.IsWhole)
  (arg3 : Memref sig .tc .vmem S1x2x4096x256 .fp8e4m3) (harg3 : arg3.IsWhole)
  (arg4 : Memref sig .tc .vmem S1x1x4096x256 .fp8e4m3) (harg4 : arg4.IsWhole)
  (arg5 : Memref sig .tc .vmem S1x1x4096x256 .fp8e4m3) (harg5 : arg5.IsWhole)
  (arg6 : Memref sig .tc .vmem S1x2x4096x256 .fp8e5m2) (harg6 : arg6.IsWhole)
  (arg7 : Memref sig .tc .vmem S1x2x4096x256 .bf16) (harg7 : arg7.IsWhole)
  (arg8 : Memref sig .tc .vmem S1x2x16x256 .f32) (harg8 : arg8.IsWhole)
  (arg9 : Memref sig .tc .vmem S1x2x4096x256 .bf16) (harg9 : arg9.IsWhole)
  (arg10 : Memref sig .tc .vmem S1x1x4096x256 .bf16) (harg10 : arg10.IsWhole)
  (arg11 : Memref sig .tc .vmem S1x1x4096x256 .bf16) (harg11 : arg11.IsWhole)
  (arg12 : Memref sig .tc .vmem S2x16x256x256 .f32) (harg12 : arg12.IsWhole)
  (arg13 : Memref sig .tc .vmem S256x256 .bf16) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S2x16x256 .f32) (harg16 : arg16.IsWhole)
variable (arg1 : BitVec 32) (v0 : IVec S256x256 32) (v1 : IVec S256x256 32)

variable {x2 : FVec Ideal S4x16 .f32} {x3 : FVec Ideal S1x2x4096x256 .fp8e4m3} {x4 x5 : FVec Ideal S1x1x4096x256 .fp8e4m3} {x6 : FVec Ideal S1x2x4096x256 .fp8e5m2}
  {lse delta : Fin 2 → Fin 4096 → EReal}

section Pieces

/-- A tile-shaped index is its last two coordinates. -/
theorem ix_tile (y : S1x1x256x256.Idx) : y = ix4 0 0 (y 2) (y 3) := by
  funext a
  fin_cases a
  · exact Subsingleton.elim (α := Fin 1) _ _
  · exact Subsingleton.elim (α := Fin 1) _ _
  · rfl
  · rfl

/-- A tile of a block with one head holds the block's rows. -/
theorem piece1 {off : Fin 4 → ℕ} {inb : ∀ a, off a + S1x1x256x256.size a ≤ S1x1x4096x256.size a} (j : Fin 16) (h : off = ![0, 0, 256 * j.val, 0])
    (w : S1x1x256x256.Idx → EReal) (G : Fin 4096 → Fin 256 → EReal) (hw : ∀ a d, w (ix4 0 0 a d) = G (row j a) d)
    (y : (Rect.unit (s := S1x1x4096x256) off S1x1x256x256.size inb).shape.Idx) :
    w y = (fun z : S1x1x4096x256.Idx => G (z 2) (z 3)) ((Rect.unit (s := S1x1x4096x256) off S1x1x256x256.size inb).emb y) := by
  subst h
  refine (congrArg w (ix_tile y)).trans ((hw _ _).trans (congrArg₂ G (Fin.ext ?_) (Fin.ext ?_)))
  · show j.val * 256 + (y 2).val = 256 * j.val + 1 * (y 2).val
    omega
  · show (y 3).val = 0 + 1 * (y 3).val
    omega

/-- A tile of a block with two heads holds the block's rows of its head. -/
theorem piece2 {off : Fin 4 → ℕ} {inb : ∀ a, off a + S1x1x256x256.size a ≤ S1x2x4096x256.size a} (r : Fin 2) (j : Fin 16) (h : off = ![0, r.val, 256 * j.val, 0])
    (w : S1x1x256x256.Idx → EReal) (G : Fin 2 → Fin 4096 → Fin 256 → EReal) (hw : ∀ a d, w (ix4 0 0 a d) = G r (row j a) d)
    (y : (Rect.unit (s := S1x2x4096x256) off S1x1x256x256.size inb).shape.Idx) :
    w y = (fun z : S1x2x4096x256.Idx => G (z 1) (z 2) (z 3)) ((Rect.unit (s := S1x2x4096x256) off S1x1x256x256.size inb).emb y) := by
  subst h
  have h1 : r = (Rect.unit (s := S1x2x4096x256) ![0, r.val, 256 * j.val, 0] S1x1x256x256.size inb).emb y 1 := Fin.ext (by
    have : (y 1).val = 0 := Nat.lt_one_iff.mp (y 1).isLt
    show r.val = r.val + 1 * (y 1).val
    omega)
  have h2 : row j (y 2) = (Rect.unit (s := S1x2x4096x256) ![0, r.val, 256 * j.val, 0] S1x1x256x256.size inb).emb y 2 := Fin.ext (by
    show j.val * 256 + (y 2).val = 256 * j.val + 1 * (y 2).val
    omega)
  have h3 : y 3 = (Rect.unit (s := S1x2x4096x256) ![0, r.val, 256 * j.val, 0] S1x1x256x256.size inb).emb y 3 := Fin.ext (by
    show (y 3).val = 0 + 1 * (y 3).val
    omega)
  refine (congrArg w (ix_tile y)).trans ((hw _ _).trans ?_)
  show G r (row j (y 2)) (y 3) = G _ _ _
  rw [← h1, ← h2, ← h3]

end Pieces

/-- What the trips before `n` of the loop over the kv tiles leave: every piece of the key gradient's and of the value
    gradient's block holds its rows, and the query gradient's buffer has the parts of the kv tiles below `n` added. -/
theorem kv_val (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (X_arg16 : BufTy.Contents (Elt Ideal) arg16.view.ty) (G : BufTy.Contents (Elt Ideal) arg12.view.ty) (hv0 : v0 = fun y => BitVec.ofNat 32 (y 0).val) (hv1 : v1 = fun y => BitVec.ofNat 32 (y 1).val)
    (h2 : arg2.view.read (Elt Ideal) X_arg2 = x2)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6)
    (h8 : ∀ r qi x, arg8.view.read (Elt Ideal) X_arg8 (ix4 0 r qi x) = lse r (row qi x))
    (h16 : ∀ r qi x, arg16.view.read (Elt Ideal) X_arg16 (ix3 r qi x) = delta r (row qi x))
    (n : ℕ) (hn : n ≤ k0_t2_loop.trips) :
    (∀ p ∈ (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G n).1, ∀ y, p.2 y = (fun z : S1x1x4096x256.Idx => dkV x2 x3 x4 x5 x6 lse delta (gr i) (z 2) (z 3)) (p.1.emb y))
      ∧ (∀ p ∈ (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G n).2.1, ∀ y, p.2 y = (fun z : S1x1x4096x256.Idx => dvV x2 x3 x4 x6 lse (gr i) (z 2) (z 3)) (p.1.emb y))
      ∧ ∀ r qi d x, rd arg12.view (arg12.view.writes (Elt Ideal) G (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G n).2.2) (ix4 r qi d x)
        = rd arg12.view G (ix4 r qi d x)
          + tiles 0 n fun j => ∑ a : Fin 256, x4 (ix4 0 0 (row j a) d) * dBV x2 x3 x4 x5 x6 lse delta (gr i) r (row j a) (row qi x) := by
  induction n with
  | zero =>
    refine ⟨fun p hp => absurd hp List.not_mem_nil, fun p hp => absurd hp List.not_mem_nil, fun r qi d x => ?_⟩
    rw [tiles_zero, add_zero]; rfl
  | succ m ih =>
    obtain ⟨i10, i11, i12⟩ := ih (by omega)
    obtain ⟨⟨w, e, hw⟩, ⟨w', e', hw'⟩, a12⟩ := trip_val 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 hv0 hv1 h2 h3 h4 h5 h6 h8 h16 ⟨m, hn⟩ (arg12.view.writes (Elt Ideal) G (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G m).2.2)
    rw [show (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G (m + 1)) = _ from pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v1 X_arg2 X_arg3 X_arg4 X_arg5 X_arg6 X_arg8 X_arg16 G ⟨m, hn⟩ rfl]
    dsimp only
    have hm : 0 + m < 16 := by have := t2_trips; omega
    have ht : tl ⟨m, hn⟩ = ⟨0 + m, hm⟩ := Fin.ext (Nat.zero_add m).symm
    refine ⟨fun p hp => ?_, fun p hp => ?_, fun r qi d x => ?_⟩
    · rw [e] at hp
      rcases List.mem_append.1 hp with h | h
      · obtain rfl := List.mem_singleton.1 h
        exact piece1 (inb := k0_off6_inb ⟨m, hn⟩) (tl ⟨m, hn⟩) (k0_off6_eq ⟨m, hn⟩) w _ hw
      · exact i10 p h
    · rw [e'] at hp
      rcases List.mem_append.1 hp with h | h
      · obtain rfl := List.mem_singleton.1 h
        exact piece1 (inb := k0_off6_inb ⟨m, hn⟩) (tl ⟨m, hn⟩) (k0_off6_eq ⟨m, hn⟩) w' _ hw'
      · exact i11 p h
    · rw [View.writes_append]
      refine (a12 r qi d x).trans ((congrArg (· + _) (i12 r qi d x)).trans ((add_assoc _ _ _).trans (congrArg (rd arg12.view G (ix4 r qi d x) + ·) ?_)))
      rw [tiles_succ 0 m hm, ht]

/-- One trip of the last loop writes one tile of rows of the query gradient's block at each head. -/
theorem dq_trip (X_arg2 : BufTy.Contents (Elt Ideal) arg2.view.ty) (X_arg12 : BufTy.Contents (Elt Ideal) arg12.view.ty) (h2 : arg2.view.read (Elt Ideal) X_arg2 = x2) (A : Fin 2 → Fin 4096 → Fin 256 → EReal)
    (h12 : ∀ r qi d x, rd arg12.view X_arg12 (ix4 r qi d x) = A r (row qi x) d) (k : Fin k0_t7_loop.trips) (j : Fin 16) (hj : j.val = k.val) :
    ∃ w1 w0 : S1x1x256x256.Idx → EReal, (trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 k).1
        = [⟨Rect.unit (s := S1x2x4096x256) (k0_off35 k) S1x1x256x256.size (k0_off35_inb k), w1⟩, ⟨Rect.unit (s := S1x2x4096x256) (k0_off33 k) S1x1x256x256.size (k0_off33_inb k), w0⟩]
      ∧ (∀ x d, w1 (ix4 0 0 x d) = A 1 (row j x) d * (x2 (ix2 1 (gk (gr i))) * c16)) ∧ ∀ x d, w0 (ix4 0 0 x d) = A 0 (row j x) d * (x2 (ix2 1 (gk (gr i))) * c16) := by
  have o y := scal_apply arg2.view X_arg2 h2 (inb := k0_off32_inb i) 1 (gk (gr i)) (k0_off32_eq i) y
  unfold trip_k0_t7
  refine ⟨_, _, rfl, fun x d => ?_, fun x d => ?_⟩
  · refine (pay5_apply _ _ x d).trans (congrArg₂ (· * ·) ?_ (congrArg (· * c16) (o _)))
    rw [← h12]
    exact load_apply arg12.view X_arg12 (k0_off34_eq k) (ix4 0 0 d x : S1x1x256x256.Idx) (ix4 1 j d x) fun a => by fin_cases a <;> simp [hj]
  · refine (pay4_apply _ _ x d).trans (congrArg₂ (· * ·) ?_ (congrArg (· * c16) (o _)))
    rw [← h12]
    exact load_apply arg12.view X_arg12 (k0_off31_eq k) (ix4 0 0 d x : S1x1x256x256.Idx) (ix4 0 j d x) fun a => by fin_cases a <;> simp [hj]

/-- Every piece the last loop writes holds its rows of the query gradient. -/
theorem dq_val (X_arg2 : BufTy.Contents (Elt Ideal) arg2.view.ty) (X_arg12 : BufTy.Contents (Elt Ideal) arg12.view.ty) (h2 : arg2.view.read (Elt Ideal) X_arg2 = x2) (A : Fin 2 → Fin 4096 → Fin 256 → EReal)
    (h12 : ∀ r qi d x, rd arg12.view X_arg12 (ix4 r qi d x) = A r (row qi x) d) (n : ℕ) (hn : n ≤ k0_t7_loop.trips) :
    ∀ p ∈ (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 n), ∀ y, p.2 y = (fun z : S1x2x4096x256.Idx => A (z 1) (z 2) (z 3) * (x2 (ix2 1 (gk (gr i))) * c16)) (p.1.emb y) := by
  induction n with
  | zero => exact fun p hp => absurd hp List.not_mem_nil
  | succ m ih =>
    have hm : m < 16 := by have : k0_t7_loop.trips = 16 := by decide +kernel
                           omega
    obtain ⟨w1, w0, e, e1, e0⟩ := dq_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 h2 A h12 ⟨m, hn⟩ ⟨m, hm⟩ rfl
    rw [show (pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 (m + 1)) = _ from pb_k0_t7_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg12 ⟨m, hn⟩, tripL_k0_t7, e]
    intro p hp
    rcases List.mem_append.1 hp with h | h
    · rcases List.mem_cons.1 h with rfl | h
      · exact piece2 (inb := k0_off35_inb ⟨m, hn⟩) 1 ⟨m, hm⟩ (k0_off35_eq ⟨m, hn⟩) w1 (fun r q d => A r q d * (x2 (ix2 1 (gk (gr i))) * c16)) e1
      · obtain rfl := List.mem_singleton.1 h
        exact piece2 (inb := k0_off33_inb ⟨m, hn⟩) 0 ⟨m, hm⟩ (k0_off33_eq ⟨m, hn⟩) w0 (fun r q d => A r q d * (x2 (ix2 1 (gk (gr i))) * c16)) e0
    · exact ih (by omega) p h

/-- The queries' log-sum-exps, row by row. -/
def lseB (x8 : FVec Ideal S1x2x16x256 .f32) (r : Fin 2) (q : Fin 4096) : EReal :=
  x8 (ix4 0 r ⟨q.val / 256, by have := q.isLt; omega⟩ ⟨q.val % 256, Nat.mod_lt _ (by decide)⟩)

/-- The log-sum-exp of a row, by its tile and its place there. -/
theorem lseB_row (x8 : FVec Ideal S1x2x16x256 .f32) (r : Fin 2) (qi : Fin 16) (x : Fin 256) : lseB x8 r (row qi x) = x8 (ix4 0 r qi x) := by
  unfold lseB
  have := x.isLt
  congr 2
  · exact Fin.ext (by simp only [row]; omega)
  · exact Fin.ext (by simp only [row]; omega)

/-- The pieces of the three output blocks, by the loops that write them. -/
theorem run_eq' (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) :
    (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1 = pb_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 (arg12.view.writes (Elt Ideal) arg12.view.junk ((pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Idealize.ShloMosaic.iota .tc S256x256 32 [0] (by decide +kernel)) (Idealize.ShloMosaic.iota .tc S256x256 32 [1] (by decide +kernel)) X_arg2 X_arg3 X_arg4 X_arg5 X_arg6 X_arg8 (sums (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) (arg12.view.writes (Elt Ideal) arg12.view.junk run.sl.HS_arg12_1) k0_t2_loop.trips).2.2 ++ run.sl.HS_arg12_1)) k0_t7_loop.trips
      ∧ (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1 = (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Idealize.ShloMosaic.iota .tc S256x256 32 [0] (by decide +kernel)) (Idealize.ShloMosaic.iota .tc S256x256 32 [1] (by decide +kernel)) X_arg2 X_arg3 X_arg4 X_arg5 X_arg6 X_arg8 (sums (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) (arg12.view.writes (Elt Ideal) arg12.view.junk run.sl.HS_arg12_1) k0_t2_loop.trips).1 ∧ (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1 = (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Idealize.ShloMosaic.iota .tc S256x256 32 [0] (by decide +kernel)) (Idealize.ShloMosaic.iota .tc S256x256 32 [1] (by decide +kernel)) X_arg2 X_arg3 X_arg4 X_arg5 X_arg6 X_arg8 (sums (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) (arg12.view.writes (Elt Ideal) arg12.view.junk run.sl.HS_arg12_1) k0_t2_loop.trips).2.1 := by
  unfold run; exact ⟨rfl, rfl, rfl⟩

set_option maxHeartbeats 400000 in
/-- Every piece of the three output blocks holds its rows of the gradient. -/
theorem run_val (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) {x7 : FVec Ideal S1x2x4096x256 .bf16} {x8 : FVec Ideal S1x2x16x256 .f32} (h2 : arg2.view.read (Elt Ideal) X_arg2 = x2)
    (h3 : arg3.view.read (Elt Ideal) X_arg3 = x3) (h4 : arg4.view.read (Elt Ideal) X_arg4 = x4) (h5 : arg5.view.read (Elt Ideal) X_arg5 = x5)
    (h6 : arg6.view.read (Elt Ideal) X_arg6 = x6) (h7 : arg7.view.read (Elt Ideal) X_arg7 = x7) (h8 : arg8.view.read (Elt Ideal) X_arg8 = x8) :
    (∀ p ∈ (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).1, ∀ y, p.2 y = (fun z : S1x2x4096x256.Idx => dqV x2 x3 x4 x5 x6 (lseB x8) (dlV x2 x6 x7 (gr i)) (gr i) (z 1) (z 2) (z 3)) (p.1.emb y))
      ∧ (∀ p ∈ (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.1, ∀ y, p.2 y = (fun z : S1x1x4096x256.Idx => dkV x2 x3 x4 x5 x6 (lseB x8) (dlV x2 x6 x7 (gr i)) (gr i) (z 2) (z 3)) (p.1.emb y))
      ∧ ∀ p ∈ (run (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8).2.2.1, ∀ y, p.2 y = (fun z : S1x1x4096x256.Idx => dvV x2 x3 x4 x6 (lseB x8) (gr i) (z 2) (z 3)) (p.1.emb y) := by
  have h16 : ∀ r qi x, arg16.view.read (Elt Ideal) (sums (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7) (ix3 r qi x) = dlV x2 x6 x7 (gr i) r (row qi x) := fun r qi x =>
    sums_val 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ X_arg2 X_arg6 X_arg7 h2 h6 h7 _ _ le_rfl r qi x (lt_of_lt_of_eq qi.isLt (by decide +kernel))
  have h8' : ∀ r qi x, arg8.view.read (Elt Ideal) X_arg8 (ix4 0 r qi x) = lseB x8 r (row qi x) := fun r qi x => by rw [h8, lseB_row]
  obtain ⟨e9, e10, e11⟩ := run_eq' 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8
  obtain ⟨k10, k11, k12⟩ := kv_val 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Idealize.ShloMosaic.iota .tc S256x256 32 [0] (by decide +kernel)) (Idealize.ShloMosaic.iota .tc S256x256 32 [1] (by decide +kernel)) X_arg2 X_arg3 X_arg4 X_arg5 X_arg6 X_arg8 (sums (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg6 X_arg7)
    (arg12.view.writes (Elt Ideal) arg12.view.junk run.sl.HS_arg12_1) (funext fun y => congrArg (BitVec.ofNat 32) (show 0 * 256 + (y 0).val = (y 0).val by omega))
    (funext fun y => congrArg (BitVec.ofNat 32) (show 0 * 256 + (y 1).val = (y 1).val by omega)) h2 h3 h4 h5 h6 h8' h16 k0_t2_loop.trips le_rfl
  refine ⟨fun p hp => ?_, fun p hp => k10 p ((congrArg (p ∈ ·) e10).mp hp), fun p hp => k11 p ((congrArg (p ∈ ·) e11).mp hp)⟩
  refine dq_val 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 _ h2 (fun r q d => ∑ k : Fin 4096, x4 (ix4 0 0 k d) * dBV x2 x3 x4 x5 x6 (lseB x8) (dlV x2 x6 x7 (gr i)) (gr i) r k q) (fun r qi d x => ?_) _ le_rfl p ((congrArg (p ∈ ·) e9).mp hp)
  rw [View.writes_append]
  refine (k12 r qi d x).trans ?_
  unfold run.sl.HS_arg12_1
  rw [rd, View.read_writes_full, sum_rows]
  have z : k0_pay1 (F := Ideal) (ix4 r qi d x) = (0 : EReal) := by pointwise [k0_pay1]
  refine (congrArg (· + _) z).trans ((zero_add _).trans (tiles_all 0 _ _ fun j hj => absurd ⟨Nat.zero_le _, ?_⟩ hj))
  have := j.isLt
  have := t2_trips
  omega

/-- The body leaves the query gradient in its block. -/
theorem out9_apply (x2 : FVec Ideal S4x16 .f32) (x3 : FVec Ideal S1x2x4096x256 .fp8e4m3) (x4 : FVec Ideal S1x1x4096x256 .fp8e4m3) (x5 : FVec Ideal S1x1x4096x256 .fp8e4m3) (x6 : FVec Ideal S1x2x4096x256 .fp8e5m2) (x7 : FVec Ideal S1x2x4096x256 .bf16) (x8 : FVec Ideal S1x2x16x256 .f32) (z : S1x2x4096x256.Idx) : out9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 z = dqV x2 x3 x4 x5 x6 (lseB x8) (dlV x2 x6 x7 (gr i)) (gr i) (z 1) (z 2) (z 3) := by
  unfold out9
  have h := (run_val Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8) (harg2.read_unread _) (harg3.read_unread _) (harg4.read_unread _) (harg5.read_unread _) (harg6.read_unread _) (harg7.read_unread _) (harg8.read_unread _)).1
  have hc := (run_cover (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).1
  exact View.canon_apply_of_pieces (Val := Elt Ideal) (S := S1x2x4096x256) (e := .bf16) (fun z => dqV x2 x3 x4 x5 x6 (lseB x8) (dlV x2 x6 x7 (gr i)) (gr i) (z 1) (z 2) (z 3)) _ h z (hc z)

/-- The body leaves the key gradient in its block. -/
theorem out10_apply (x2 : FVec Ideal S4x16 .f32) (x3 : FVec Ideal S1x2x4096x256 .fp8e4m3) (x4 : FVec Ideal S1x1x4096x256 .fp8e4m3) (x5 : FVec Ideal S1x1x4096x256 .fp8e4m3) (x6 : FVec Ideal S1x2x4096x256 .fp8e5m2) (x7 : FVec Ideal S1x2x4096x256 .bf16) (x8 : FVec Ideal S1x2x16x256 .f32) (z : S1x1x4096x256.Idx) : out10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 z = dkV x2 x3 x4 x5 x6 (lseB x8) (dlV x2 x6 x7 (gr i)) (gr i) (z 2) (z 3) := by
  unfold out10
  have h := (run_val Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8) (harg2.read_unread _) (harg3.read_unread _) (harg4.read_unread _) (harg5.read_unread _) (harg6.read_unread _) (harg7.read_unread _) (harg8.read_unread _)).2.1
  have hc := (run_cover (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.1
  exact View.canon_apply_of_pieces (Val := Elt Ideal) (S := S1x1x4096x256) (e := .bf16) (fun z => dkV x2 x3 x4 x5 x6 (lseB x8) (dlV x2 x6 x7 (gr i)) (gr i) (z 2) (z 3)) _ h z (hc z)

/-- The body leaves the value gradient in its block. -/
theorem out11_apply (x2 : FVec Ideal S4x16 .f32) (x3 : FVec Ideal S1x2x4096x256 .fp8e4m3) (x4 : FVec Ideal S1x1x4096x256 .fp8e4m3) (x5 : FVec Ideal S1x1x4096x256 .fp8e4m3) (x6 : FVec Ideal S1x2x4096x256 .fp8e5m2) (x7 : FVec Ideal S1x2x4096x256 .bf16) (x8 : FVec Ideal S1x2x16x256 .f32) (z : S1x1x4096x256.Idx) : out11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 z = dvV x2 x3 x4 x6 (lseB x8) (gr i) (z 2) (z 3) := by
  unfold out11
  have h := (run_val Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8) (harg2.read_unread _) (harg3.read_unread _) (harg4.read_unread _) (harg5.read_unread _) (harg6.read_unread _) (harg7.read_unread _) (harg8.read_unread _)).2.2
  have hc := (run_cover (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x2) (harg3.unread x3) (harg4.unread x4) (harg5.unread x5) (harg6.unread x6) (harg7.unread x7) (harg8.unread x8)).2.2
  exact View.canon_apply_of_pieces (Val := Elt Ideal) (S := S1x1x4096x256) (e := .bf16) (fun z => dvV x2 x3 x4 x6 (lseB x8) (gr i) (z 2) (z 3)) _ h z (hc z)

end Cert.Proof.KernelIdeal
-- ==== Proof.KernelIdeal.Arr.lean ====
/- The blocks a grid point sees, and what the three output arrays hold after the run, over the program's arguments. -/
module

public import proofs.«01_k».proof.Proof.KernelIdeal.Block
public import Idealize.ShloMosaic.Lib.Pipeline.ValueKit
public import Idealize.ShloMosaic.Lib.Pointwise
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block lies: the scales are one block, every other window takes sequence `i 0`, group `i 1`. -/
theorem idx : ∀ t : Fin cfg0.N, win0_0.index t = ![0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0]
    ∧ win0_7.index t = ![(grid0.coords t 0).val, (grid0.coords t 1).val, 0, 0]
    ∧ win0_8.index t = ![(grid0.coords t 0).val, (grid0.coords t 1).val, 0, 0]
    ∧ win0_9.index t = ![(grid0.coords t 0).val, (grid0.coords t 1).val, 0, 0] :=
  (by decide +kernel : ∀ t : Fin grid0.N, _)

/-- A grid point's sequence. -/
def bt (i : grid0.Coords) : Fin 6 := ⟨(i 0).val, (i 0).isLt⟩

/-- The queries (or any array over the heads) of one group: its two heads' rows. -/
abbrev hds {φ : FTy} (X : FVec Ideal S6x4096x16x256 φ) (b : Fin 6) (g : Fin 8) : FVec Ideal S1x2x4096x256 φ :=
  fun y => X (ix4 b (y 2) (hd g (y 1)) (y 3))

/-- The keys or values of one group. -/
abbrev grp {φ : FTy} (X : FVec Ideal S6x4096x8x256 φ) (b : Fin 6) (g : Fin 8) : FVec Ideal S1x1x4096x256 φ :=
  fun y => X (ix4 b (y 2) g (y 3))

/-- The queries as the kernel call finds them: heads before rows. -/
theorem V8_apply (c : Dev nD) (b : Fin 6) (h : Fin 16) (s : Fin 4096) (d : Fin 256) :
    (V m c main_v8 : FVec Ideal S6x16x4096x256 .fp8e4m3) (ix4 b h s d) = (m ((c : Thread nD τ).loc main_arg0) : FVec Ideal S6x4096x16x256 .fp8e4m3) (ix4 b s h d) := by
  rw [show V m c main_v8 = transpose S6x16x4096x256 [0, 2, 1, 3] (m ((c : Thread nD τ).loc main_arg0) : FVec Ideal S6x4096x16x256 .fp8e4m3) transposes_S6x4096x16x256_S6x16x4096x256_0_2_1_3 from rfl]
  pointwise

/-- The keys, heads before rows. -/
theorem V9_apply (c : Dev nD) (b : Fin 6) (h : Fin 8) (s : Fin 4096) (d : Fin 256) :
    (V m c main_v9 : FVec Ideal S6x8x4096x256 .fp8e4m3) (ix4 b h s d) = (m ((c : Thread nD τ).loc main_arg2) : FVec Ideal S6x4096x8x256 .fp8e4m3) (ix4 b s h d) := by
  rw [show V m c main_v9 = transpose S6x8x4096x256 [0, 2, 1, 3] (m ((c : Thread nD τ).loc main_arg2) : FVec Ideal S6x4096x8x256 .fp8e4m3) transposes_S6x4096x8x256_S6x8x4096x256_0_2_1_3 from rfl]
  pointwise

/-- The values, heads before rows. -/
theorem V10_apply (c : Dev nD) (b : Fin 6) (h : Fin 8) (s : Fin 4096) (d : Fin 256) :
    (V m c main_v10 : FVec Ideal S6x8x4096x256 .fp8e4m3) (ix4 b h s d) = (m ((c : Thread nD τ).loc main_arg4) : FVec Ideal S6x4096x8x256 .fp8e4m3) (ix4 b s h d) := by
  rw [show V m c main_v10 = transpose S6x8x4096x256 [0, 2, 1, 3] (m ((c : Thread nD τ).loc main_arg4) : FVec Ideal S6x4096x8x256 .fp8e4m3) transposes_S6x4096x8x256_S6x8x4096x256_0_2_1_3 from rfl]
  pointwise

/-- The output's gradients, heads before rows. -/
theorem V11_apply (c : Dev nD) (b : Fin 6) (h : Fin 16) (s : Fin 4096) (d : Fin 256) :
    (V m c main_v11 : FVec Ideal S6x16x4096x256 .fp8e5m2) (ix4 b h s d) = (m ((c : Thread nD τ).loc main_arg6) : FVec Ideal S6x4096x16x256 .fp8e5m2) (ix4 b s h d) := by
  rw [show V m c main_v11 = transpose S6x16x4096x256 [0, 2, 1, 3] (m ((c : Thread nD τ).loc main_arg6) : FVec Ideal S6x4096x16x256 .fp8e5m2) transposes_S6x4096x16x256_S6x16x4096x256_0_2_1_3 from rfl]
  pointwise

/-- The outputs, heads before rows. -/
theorem V12_apply (c : Dev nD) (b : Fin 6) (h : Fin 16) (s : Fin 4096) (d : Fin 256) :
    (V m c main_v12 : FVec Ideal S6x16x4096x256 .bf16) (ix4 b h s d) = (m ((c : Thread nD τ).loc main_arg8) : FVec Ideal S6x4096x16x256 .bf16) (ix4 b s h d) := by
  rw [show V m c main_v12 = transpose S6x16x4096x256 [0, 2, 1, 3] (m ((c : Thread nD τ).loc main_arg8) : FVec Ideal S6x4096x16x256 .bf16) transposes_S6x4096x16x256_S6x16x4096x256_0_2_1_3 from rfl]
  pointwise

/-- The log-sum-exps, the rows cut into tiles. -/
theorem V7_apply (c : Dev nD) (b : Fin 6) (h : Fin 16) (s : Fin 16) (x : Fin 256) :
    (V m c main_v7 : FVec Ideal S6x16x16x256 .f32) (ix4 b h s x) = (m ((c : Thread nD τ).loc main_arg9) : FVec Ideal S6x16x4096 .f32) (ix3 b h (row s x)) := by
  rw [show V m c main_v7 = shapeCast S6x16x16x256 (m ((c : Thread nD τ).loc main_arg9) : FVec Ideal S6x16x4096 .f32) shapeCasts_S6x16x4096_S6x16x16x256 from rfl]
  pointwise
  exact congrArg _ (congrArg (ix3 b h) (Fin.ext (by simp only [row] <;> omega)))

/-- The table of scales: the queries', the keys' padded, the output gradient's, the values' padded. -/
theorem V6_eq (c : Dev nD) : V m c main_v6 = concatenate S4x16 0 [⟨S1x16, broadcastInDim S1x16 ![1] bcast_S16_S1x16_1 (m ((c : Thread nD τ).loc main_arg1) : FVec Ideal S16 .f32)⟩,
    ⟨S1x16, broadcastInDim S1x16 ![1] bcast_S16_S1x16_1 (pad S16 ![0] ![8] ![0] (m ((c : Thread nD τ).loc main_arg3) : FVec Ideal S8 .f32) (sitofp (F := Ideal) .f32 (constantI S_ 32 0#32)) pads_S8_S16_080 h_S_)⟩,
    ⟨S1x16, broadcastInDim S1x16 ![1] bcast_S16_S1x16_1 (m ((c : Thread nD τ).loc main_arg7) : FVec Ideal S16 .f32)⟩,
    ⟨S1x16, broadcastInDim S1x16 ![1] bcast_S16_S1x16_1 (pad S16 ![0] ![8] ![0] (m ((c : Thread nD τ).loc main_arg5) : FVec Ideal S8 .f32) (sitofp (F := Ideal) .f32 (constantI S_ 32 0#32)) pads_S8_S16_080 h_S_)⟩] concatenates_S1x16_S1x16_S1x16_S1x16_S4x16_d0 := by
  dsimp only [V, V0, hostOps0, hostOps0_1, hostOps0_2, hostOps0_3, hostOps0_4, List.flatten_cons, List.flatten_nil, List.append_nil, List.cons_append, List.nil_append]
  after_results

  rfl

/-- The table's first row: the queries' scales. -/
theorem V6_0 (c : Dev nD) (h : Fin 16) : (V m c main_v6 : FVec Ideal S4x16 .f32) (ix2 0 h) = (m ((c : Thread nD τ).loc main_arg1) : FVec Ideal S16 .f32) (ix1 h) := by
  rw [V6_eq]
  pointwise

/-- The table's second row: the keys' scales. -/
theorem V6_1 (c : Dev nD) (g : Fin 8) : (V m c main_v6 : FVec Ideal S4x16 .f32) (ix2 1 (gk g)) = (m ((c : Thread nD τ).loc main_arg3) : FVec Ideal S8 .f32) (ix1 g) := by
  rw [V6_eq]
  pointwise
  exact dif_pos fun a => match a with | ⟨0, _⟩ => g.isLt

/-- The table's third row: the output gradients' scales. -/
theorem V6_2 (c : Dev nD) (h : Fin 16) : (V m c main_v6 : FVec Ideal S4x16 .f32) (ix2 2 h) = (m ((c : Thread nD τ).loc main_arg7) : FVec Ideal S16 .f32) (ix1 h) := by
  rw [V6_eq]
  pointwise

/-- The table's fourth row: the values' scales. -/
theorem V6_3 (c : Dev nD) (g : Fin 8) : (V m c main_v6 : FVec Ideal S4x16 .f32) (ix2 3 (gk g)) = (m ((c : Thread nD τ).loc main_arg5) : FVec Ideal S8 .f32) (ix1 g) := by
  rw [V6_eq]
  pointwise
  exact dif_pos fun a => match a with | ⟨0, _⟩ => g.isLt

/-- The block of queries at a grid point. -/
theorem iblk1 (c : Dev nD) (t : Fin cfg0.N) :
    iblk m c 1 t = hds (φ := .fp8e4m3) (m ((c : Thread nD τ).loc main_arg0)) (bt (grid0.coords t)) (gr (grid0.coords t)) := by
  funext (y : S1x2x4096x256.Idx)
  change V m c main_v8 (((cfg0.win 1).blk t).view.emb y) = _
  refine (congrArg (V m c main_v8) (?_ : _ = (ix4 (bt (grid0.coords t)) (hd (gr (grid0.coords t)) (y 1)) (y 2) (y 3) : S6x16x4096x256.Idx))).trans (V8_apply m c _ _ _ _)
  blk_ext [idx t, bt, gr, hd]

/-- The block of keys at a grid point. -/
theorem iblk2 (c : Dev nD) (t : Fin cfg0.N) :
    iblk m c 2 t = grp (φ := .fp8e4m3) (m ((c : Thread nD τ).loc main_arg2)) (bt (grid0.coords t)) (gr (grid0.coords t)) := by
  funext (y : S1x1x4096x256.Idx)
  change V m c main_v9 (((cfg0.win 2).blk t).view.emb y) = _
  refine (congrArg (V m c main_v9) (?_ : _ = (ix4 (bt (grid0.coords t)) (gr (grid0.coords t)) (y 2) (y 3) : S6x8x4096x256.Idx))).trans (V9_apply m c _ _ _ _)
  blk_ext [idx t, bt, gr, hd]

/-- The block of values at a grid point. -/
theorem iblk3 (c : Dev nD) (t : Fin cfg0.N) :
    iblk m c 3 t = grp (φ := .fp8e4m3) (m ((c : Thread nD τ).loc main_arg4)) (bt (grid0.coords t)) (gr (grid0.coords t)) := by
  funext (y : S1x1x4096x256.Idx)
  change V m c main_v10 (((cfg0.win 3).blk t).view.emb y) = _
  refine (congrArg (V m c main_v10) (?_ : _ = (ix4 (bt (grid0.coords t)) (gr (grid0.coords t)) (y 2) (y 3) : S6x8x4096x256.Idx))).trans (V10_apply m c _ _ _ _)
  blk_ext [idx t, bt, gr, hd]

/-- The block of the output's gradients at a grid point. -/
theorem iblk4 (c : Dev nD) (t : Fin cfg0.N) :
    iblk m c 4 t = hds (φ := .fp8e5m2) (m ((c : Thread nD τ).loc main_arg6)) (bt (grid0.coords t)) (gr (grid0.coords t)) := by
  funext (y : S1x2x4096x256.Idx)
  change V m c main_v11 (((cfg0.win 4).blk t).view.emb y) = _
  refine (congrArg (V m c main_v11) (?_ : _ = (ix4 (bt (grid0.coords t)) (hd (gr (grid0.coords t)) (y 1)) (y 2) (y 3) : S6x16x4096x256.Idx))).trans (V11_apply m c _ _ _ _)
  blk_ext [idx t, bt, gr, hd]

/-- The block of outputs at a grid point. -/
theorem iblk5 (c : Dev nD) (t : Fin cfg0.N) :
    iblk m c 5 t = hds (φ := .bf16) (m ((c : Thread nD τ).loc main_arg8)) (bt (grid0.coords t)) (gr (grid0.coords t)) := by
  funext (y : S1x2x4096x256.Idx)
  change V m c main_v12 (((cfg0.win 5).blk t).view.emb y) = _
  refine (congrArg (V m c main_v12) (?_ : _ = (ix4 (bt (grid0.coords t)) (hd (gr (grid0.coords t)) (y 1)) (y 2) (y 3) : S6x16x4096x256.Idx))).trans (V12_apply m c _ _ _ _)
  blk_ext [idx t, bt, gr, hd]

/-- The table of scales, whole at every grid point. -/
theorem iblk0 (c : Dev nD) (t : Fin cfg0.N) : iblk m c 0 t = (V m c main_v6 : FVec Ideal S4x16 .f32) := by
  funext (y : S4x16.Idx)
  change V m c main_v6 (((cfg0.win 0).blk t).view.emb y) = _
  refine congrArg (V m c main_v6) ?_
  blk_ext [idx t]

/-- The block of log-sum-exps at a grid point. -/
theorem iblk6 (c : Dev nD) (t : Fin cfg0.N) :
    iblk m c 6 t = fun y : S1x2x16x256.Idx => (m ((c : Thread nD τ).loc main_arg9) : FVec Ideal S6x16x4096 .f32) (ix3 (bt (grid0.coords t)) (hd (gr (grid0.coords t)) (y 1)) (row (y 2) (y 3))) := by
  funext (y : S1x2x16x256.Idx)
  change V m c main_v7 (((cfg0.win 6).blk t).view.emb y) = _
  refine (congrArg (V m c main_v7) (?_ : _ = (ix4 (bt (grid0.coords t)) (hd (gr (grid0.coords t)) (y 1)) (y 2) (y 3) : S6x16x16x256.Idx))).trans (V7_apply m c _ _ _ _)
  blk_ext [idx t, bt, gr, hd]

end Cert.Proof.KernelIdeal
-- ==== Proof.KernelIdeal.Out.lean ====
/- What the three output arrays of the kernel hold after the run, over the program's arguments. -/
module

public import proofs.«01_k».proof.Proof.KernelIdeal.Arr

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

/-- A head's group. -/
def hg (h : Fin 16) : Fin 8 := ⟨h.val / 2, by have := h.isLt; omega⟩

/-- A head's place in its group. -/
def hr (h : Fin 16) : Fin 2 := ⟨h.val % 2, by omega⟩

/-- The group of a group's head. -/
theorem hg_hd (g : Fin 8) (r : Fin 2) : hg (hd g r) = g := Fin.ext (by have := r.isLt; simp only [hg, hd]; omega)
/-- The place of a group's head. -/
theorem hr_hd (g : Fin 8) (r : Fin 2) : hr (hd g r) = r := Fin.ext (by have := r.isLt; simp only [hr, hd]; omega)
/-- A head is the one at its place in its group. -/
theorem hd_hg (h : Fin 16) : hd (hg h) (hr h) = h := Fin.ext (by simp only [hg, hr, hd]; omega)

section Arrays

variable (T : FVec Ideal S4x16 .f32) (Q : FVec Ideal S6x4096x16x256 .fp8e4m3) (K W : FVec Ideal S6x4096x8x256 .fp8e4m3)
  (D : FVec Ideal S6x4096x16x256 .fp8e5m2) (O : FVec Ideal S6x4096x16x256 .bf16) (L : FVec Ideal S6x16x4096 .f32)
  (b : Fin 6) (g : Fin 8)

/-- The log-sum-exps of one group's heads. -/
def lseG (r : Fin 2) (q : Fin 4096) : EReal := L (ix3 b (hd g r) q)

/-- The query gradient over the whole arrays. -/
def dqG (r : Fin 2) (q : Fin 4096) (d : Fin 256) : EReal :=
  dqV T (hds Q b g) (grp K b g) (grp W b g) (hds D b g) (lseG L b g) (dlV T (hds D b g) (hds O b g) g) g r q d

/-- The key gradient over the whole arrays. -/
def dkG (k : Fin 4096) (d : Fin 256) : EReal :=
  dkV T (hds Q b g) (grp K b g) (grp W b g) (hds D b g) (lseG L b g) (dlV T (hds D b g) (hds O b g) g) g k d

/-- The value gradient over the whole arrays. -/
def dvG (k : Fin 4096) (d : Fin 256) : EReal :=
  dvV T (hds Q b g) (grp K b g) (hds D b g) (lseG L b g) g k d

end Arrays

/-- The block's log-sum-exps are the group's. -/
theorem lseB_blk (L : FVec Ideal S6x16x4096 .f32) (b : Fin 6) (g : Fin 8) :
    lseB (fun y : S1x2x16x256.Idx => L (ix3 b (hd g (y 1)) (row (y 2) (y 3)))) = lseG L b g := by
  funext r q
  exact congrArg (fun z => L (ix3 b (hd g r) z)) (Fin.ext (by simp only [row, ix4_2, ix4_3]; omega))

variable (m : (ℓ : Loc nD τ sig) → Buf (Elt Ideal) ℓ)

/-- The query gradient's array after the run. -/
theorem arr7 (c : Dev nD) : (dats m 0 c).arrAt 7 (cfgs 0).N = fun z : S6x16x4096x256.Idx => (dqG (V m c main_v6) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg9)) (z 0) (hg (z 1)) (hr (z 1)) (z 2) (z 3)) := by
  refine (dats m 0 c).arrAt_eq_of_covers 7 _ (by decide +kernel) fun t _ y => ?_
  blk_simp
  rw [after0_7]
  have e : ((cfg0.win 7).blk t).view.emb y = (ix4 (bt (grid0.coords t)) (hd (gr (grid0.coords t)) (y 1)) (y 2) (y 3) : S6x16x4096x256.Idx) := by
    blk_ext [idx t, bt, gr, hd]
  rw [e]
  unfold blk9
  refine (out9_apply ..).trans ?_
  rw [iblk0, iblk1, iblk2, iblk3, iblk4, iblk5, iblk6]
  rw [lseB_blk]
  exact (congrArg₂ (fun g r => dqG (V m c main_v6) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg9)) (bt (grid0.coords t)) g r (y 2) (y 3)) (hg_hd (gr (grid0.coords t)) (y 1)) (hr_hd (gr (grid0.coords t)) (y 1))).symm

/-- The key gradient's array after the run. -/
theorem arr8 (c : Dev nD) : (dats m 0 c).arrAt 8 (cfgs 0).N = fun z : S6x8x4096x256.Idx => (dkG (V m c main_v6) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg9)) (z 0) (z 1) (z 2) (z 3)) := by
  refine (dats m 0 c).arrAt_eq_of_covers 8 _ (by decide +kernel) fun t _ y => ?_
  blk_simp
  rw [after0_8]
  have e : ((cfg0.win 8).blk t).view.emb y = (ix4 (bt (grid0.coords t)) (gr (grid0.coords t)) (y 2) (y 3) : S6x8x4096x256.Idx) := by
    blk_ext [idx t, bt, gr, hd]
  rw [e]
  unfold blk10
  refine (out10_apply ..).trans ?_
  rw [iblk0, iblk1, iblk2, iblk3, iblk4, iblk5, iblk6]
  rw [lseB_blk]
  rfl

/-- The value gradient's array after the run. -/
theorem arr9 (c : Dev nD) : (dats m 0 c).arrAt 9 (cfgs 0).N = fun z : S6x8x4096x256.Idx => (dvG (V m c main_v6) (m ((c : Thread nD τ).loc main_arg0)) (m ((c : Thread nD τ).loc main_arg2)) (m ((c : Thread nD τ).loc main_arg6)) (m ((c : Thread nD τ).loc main_arg9)) (z 0) (z 1) (z 2) (z 3)) := by
  refine (dats m 0 c).arrAt_eq_of_covers 9 _ (by decide +kernel) fun t _ y => ?_
  blk_simp
  rw [after0_9]
  have e : ((cfg0.win 9).blk t).view.emb y = (ix4 (bt (grid0.coords t)) (gr (grid0.coords t)) (y 2) (y 3) : S6x8x4096x256.Idx) := by
    blk_ext [idx t, bt, gr, hd]
  rw [e]
  unfold blk11
  refine (out11_apply ..).trans ?_
  rw [iblk0, iblk1, iblk2, iblk4, iblk6]
  rw [lseB_blk]
  rfl

end Cert.Proof.KernelIdeal
-- ==== Proof.KernelIdeal.Res.lean ====
/- The kernel's three results: the output arrays with the head axis and the row axis swapped. -/
module

public import proofs.«01_k».proof.Proof.KernelIdeal.Out

@[expose] public section

set_option maxRecDepth 16384

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The operations after the kernel call swap two axes of its first output. -/
theorem tail14 (X : Valuation τ sig (Elt Ideal)) : StableHlo.after (List.flatten [hostOps1]) X (Proc.devRef .tc main_v14)
    = transpose S6x4096x16x256 [0, 2, 1, 3] (X (Proc.devRef .tc main_v13_0) : FVec Ideal S6x16x4096x256 .bf16) transposes_S6x16x4096x256_S6x4096x16x256_0_2_1_3 := by
  dsimp only [hostOps1, List.flatten_cons, List.flatten_nil, List.append_nil, List.cons_append, List.nil_append]
  after_results_simp

/-- The query gradient. -/
theorem res14 : Pipeline.afterTail₀ cfgs (dats m) 0 (V0 m) [hostOps1] c main_v14
    = fun z : S6x4096x16x256.Idx => dqG (V m c main_v6) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg9)) (z 0) (hg (z 2)) (hr (z 2)) (z 1) (z 3) := by
  refine (tail14 _).trans ?_
  have e : Pipeline.withArrays (cfgs 0).spec c (V0 m c) (fun w => (dats m 0 c).arrAt w (cfgs 0).N) (Proc.devRef .tc main_v13_0)
      = (dats m 0 c).arrAt 7 (cfgs 0).N := Pipeline.withArrays_arr spec0 (by decide) c _ _ 7
  rw [e, arr7 m c]
  funext z
  idx_vars z
  pointwise

/-- The operations after the kernel call swap two axes of its second output. -/
theorem tail15 (X : Valuation τ sig (Elt Ideal)) : StableHlo.after (List.flatten [hostOps1]) X (Proc.devRef .tc main_v15)
    = transpose S6x4096x8x256 [0, 2, 1, 3] (X (Proc.devRef .tc main_v13_1) : FVec Ideal S6x8x4096x256 .bf16) transposes_S6x8x4096x256_S6x4096x8x256_0_2_1_3 := by
  dsimp only [hostOps1, List.flatten_cons, List.flatten_nil, List.append_nil, List.cons_append, List.nil_append]
  after_results_simp

/-- The key gradient. -/
theorem res15 : Pipeline.afterTail₀ cfgs (dats m) 0 (V0 m) [hostOps1] c main_v15
    = fun z : S6x4096x8x256.Idx => dkG (V m c main_v6) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg9)) (z 0) (z 2) (z 1) (z 3) := by
  refine (tail15 _).trans ?_
  have e : Pipeline.withArrays (cfgs 0).spec c (V0 m c) (fun w => (dats m 0 c).arrAt w (cfgs 0).N) (Proc.devRef .tc main_v13_1)
      = (dats m 0 c).arrAt 8 (cfgs 0).N := Pipeline.withArrays_arr spec0 (by decide) c _ _ 8
  rw [e, arr8 m c]
  funext z
  idx_vars z
  pointwise

/-- The operations after the kernel call swap two axes of its third output. -/
theorem tail16 (X : Valuation τ sig (Elt Ideal)) : StableHlo.after (List.flatten [hostOps1]) X (Proc.devRef .tc main_v16)
    = transpose S6x4096x8x256 [0, 2, 1, 3] (X (Proc.devRef .tc main_v13_2) : FVec Ideal S6x8x4096x256 .bf16) transposes_S6x8x4096x256_S6x4096x8x256_0_2_1_3 := by
  dsimp only [hostOps1, List.flatten_cons, List.flatten_nil, List.append_nil, List.cons_append, List.nil_append]
  after_results_simp

/-- The value gradient. -/
theorem res16 : Pipeline.afterTail₀ cfgs (dats m) 0 (V0 m) [hostOps1] c main_v16
    = fun z : S6x4096x8x256.Idx => dvG (V m c main_v6) (m ((c : Thread nD τ).loc main_arg0)) (m ((c : Thread nD τ).loc main_arg2)) (m ((c : Thread nD τ).loc main_arg6)) (m ((c : Thread nD τ).loc main_arg9)) (z 0) (z 2) (z 1) (z 3) := by
  refine (tail16 _).trans ?_
  have e : Pipeline.withArrays (cfgs 0).spec c (V0 m c) (fun w => (dats m 0 c).arrAt w (cfgs 0).N) (Proc.devRef .tc main_v13_2)
      = (dats m 0 c).arrAt 9 (cfgs 0).N := Pipeline.withArrays_arr spec0 (by decide) c _ _ 9
  rw [e, arr9 m c]
  funext z
  idx_vars z
  pointwise

/-- The run leaves what the operations after the kernel call make of its arrays, and every argument as it was. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h.2 c).2 main_v14 (Pipeline.mem_restRefs_of main_v14 (by decide) (by decide)), (h.2 c).2 main_v15 (Pipeline.mem_restRefs_of main_v15 (by decide) (by decide)), (h.2 c).2 main_v16 (Pipeline.mem_restRefs_of main_v16 (by decide) (by decide)), h.1 c⟩)
    (θ_run_and (unchanged m ρ) (run_main m ρ))

end Cert.Proof.KernelIdeal
-- ==== Proof.ReferenceIdeal.Arr.lean ====
/- The reference's kernel call widens its four arrays; over the reals they are the arguments themselves. -/
module

public import proofs.«01_k».proof.Proof.Gen.ReferenceIdeal.Frame
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- Each window's one block is its whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, _)

/-- The widened queries. -/
theorem arr4 : (dats m 0 c).arrAt 4 (cfgs 0).N = (m ((c : Thread nD τ).loc main_arg0) : S6x4096x16x256.Idx → EReal) := by
  refine (dats m 0 c).arrAt_eq_of_after_last 4 t0_0 (by decide +kernel) _ fun j => ?_
  blk_simp
  rw [after0_4]
  frame_out
  blk_point [iblk, V, idx t0_0]

/-- The widened keys. -/
theorem arr5 : (dats m 0 c).arrAt 5 (cfgs 0).N = (m ((c : Thread nD τ).loc main_arg2) : S6x4096x8x256.Idx → EReal) := by
  refine (dats m 0 c).arrAt_eq_of_after_last 5 t0_0 (by decide +kernel) _ fun j => ?_
  blk_simp
  rw [after0_5]
  frame_out
  blk_point [iblk, V, idx t0_0]

/-- The widened values. -/
theorem arr6 : (dats m 0 c).arrAt 6 (cfgs 0).N = (m ((c : Thread nD τ).loc main_arg4) : S6x4096x8x256.Idx → EReal) := by
  refine (dats m 0 c).arrAt_eq_of_after_last 6 t0_0 (by decide +kernel) _ fun j => ?_
  blk_simp
  rw [after0_6]
  frame_out
  blk_point [iblk, V, idx t0_0]

/-- The widened output's gradients. -/
theorem arr7 : (dats m 0 c).arrAt 7 (cfgs 0).N = (m ((c : Thread nD τ).loc main_arg6) : S6x4096x16x256.Idx → EReal) := by
  refine (dats m 0 c).arrAt_eq_of_after_last 7 t0_0 (by decide +kernel) _ fun j => ?_
  blk_simp
  rw [after0_7]
  frame_out
  blk_point [iblk, V, idx t0_0]

end Cert.Proof.ReferenceIdeal
-- ==== Proof.ReferenceIdeal.Term.lean ====
/- The reference's three results as terms over its arguments, in the order the reference computes them. -/
module

public import proofs.«01_k».proof.Proof.Gen.ReferenceIdeal.Frame
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (Q D : FVec Ideal S6x4096x16x256 .f32) (K W : FVec Ideal S6x4096x8x256 .f32) (O : FVec Ideal S6x4096x16x256 .bf16)
  (qs ds : FVec Ideal S16 .f32) (ks vs : FVec Ideal S8 .f32) (L : FVec Ideal S6x16x4096 .f32)

/-- The output's gradient, dequantised, times the output, summed over the features. -/
def delta : FVec Ideal S6x16x4096 .f32 :=
  Host.dotGeneral dot_S6x4096x16x256_S6x4096x16x256_S6x16x4096_3_3_n_n_021_021 none
    (mulf D (broadcastInDim S6x4096x16x256 ![0, 1, 2, 3] bcast_S1x1x16x1_S6x4096x16x256_0_1_2_3 (broadcastInDim S1x1x16x1 ![2] bcast_S16_S1x1x16x1_2 ds)))
    (extf .f32 O bitsLt_bf16_f32)

/-- The keys' or values' rows against the queries' (or the output gradient's) rows. -/
def prods (X : FVec Ideal S6x4096x8x256 .f32) (Y : FVec Ideal S6x4096x16x256 .f32) : FVec Ideal S6x8x2x4096x4096 .f32 :=
  transpose S6x8x2x4096x4096 [0, 1, 4, 3, 2]
    (Host.dotGeneral dot_S6x4096x8x256_S6x4096x8x2x256_S6x8x4096x4096x2_3_4_1_13_02_02 none X
      (shapeCast S6x4096x8x2x256 Y shapeCasts_S6x4096x16x256_S6x4096x8x2x256 : FVec Ideal S6x4096x8x2x256 .f32) : FVec Ideal S6x8x4096x4096x2 .f32)
    transposes_S6x8x4096x4096x2_S6x8x2x4096x4096_0_1_4_3_2

/-- The heads' scales times their groups'. -/
def scales (hs : FVec Ideal S16 .f32) (gs : FVec Ideal S8 .f32) : FVec Ideal S8x2 .f32 :=
  mulf (shapeCast S8x2 hs shapeCasts_S16_S8x2 : FVec Ideal S8x2 .f32)
    (broadcastInDim S8x2 ![0, 1] bcast_S8x1_S8x2_0_1 (broadcastInDim S8x1 ![0] bcast_S8_S8x1_0 gs))

/-- One scale per head, over all pairs of rows. -/
def spread (s : FVec Ideal S8x2 .f32) : FVec Ideal S6x8x2x4096x4096 .f32 :=
  broadcastInDim S6x8x2x4096x4096 ![0, 1, 2, 3, 4] bcast_S1x8x2x1x1_S6x8x2x4096x4096_0_1_2_3_4 (broadcastInDim S1x8x2x1x1 ![1, 2] bcast_S8x2_S1x8x2x1x1_1_2 s)

/-- One number per head and query row, over all key rows. -/
def rows (X : FVec Ideal S6x16x4096 .f32) : FVec Ideal S6x8x2x4096x4096 .f32 :=
  broadcastInDim S6x8x2x4096x4096 ![0, 1, 2, 3, 4] bcast_S6x8x2x4096x1_S6x8x2x4096x4096_0_1_2_3_4
    (broadcastInDim S6x8x2x4096x1 ![0, 1, 2, 3] bcast_S6x8x2x4096_S6x8x2x4096x1_0_1_2_3
      (shapeCast S6x8x2x4096 X shapeCasts_S6x16x4096_S6x8x2x4096 : FVec Ideal S6x8x2x4096 .f32))

/-- A constant over all heads and pairs of rows. -/
def all (w : BitVec 32) : FVec Ideal S6x8x2x4096x4096 .f32 :=
  broadcastInDim S6x8x2x4096x4096 ![] bcast_S_S6x8x2x4096x4096 (constant (F := Ideal) S_ .f32 w)

/-- The soft-capped scores over the cap. -/
def scores : FVec Ideal S6x8x2x4096x4096 .f32 :=
  Host.tanh (Host.divf (mulf (prods K Q) (spread (mulf (scales qs ks) (broadcastInDim S8x2 ![] bcast_S_S8x2 (constant (F := Ideal) S_ .f32 0x3D800000#32)))))
    (all 0x40A00000#32))

/-- Which key rows a query row sees. -/
def window : IVec S4096x4096 1 :=
  andi
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
    (cmpi .sgt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1
        (subi (broadcastInDim S4096x1 ![0] bcast_S4096_S4096x1_0 (iotaInDim S4096 32 0)) (broadcastInDim S4096x1 ![] bcast_S_S4096x1 (constantI S_ 32 2048#32)))))

/-- The probabilities. -/
def probs : FVec Ideal S6x8x2x4096x4096 .f32 :=
  select (broadcastInDim S6x8x2x4096x4096 ![3, 4] bcast_S4096x4096_S6x8x2x4096x4096_3_4 window)
    (Host.exp (subf (mulf (all 0x40A00000#32) (scores Q K qs ks)) (rows L))) (all 0x00000000#32)

/-- The scores' gradients, over their own scale. -/
def grads : FVec Ideal S6x8x2x4096x4096 .f32 :=
  mulf (mulf (probs Q K qs ks L) (subf (mulf (prods W D) (spread (scales ds vs))) (rows (delta D O ds))))
    (subf (all 0x3F800000#32) (mulf (scores Q K qs ks) (scores Q K qs ks)))

/-- A tensor rounded to half the width and back. -/
def round (X : FVec Ideal S6x8x2x4096x4096 .f32) : FVec Ideal S6x8x2x4096x4096 .f32 :=
  extf .f32 (truncf .bf16 X bitsLt_bf16_f32) bitsLt_bf16_f32

/-- The query gradient. -/
def dq : FVec Ideal S6x4096x16x256 .bf16 :=
  truncf .bf16 (shapeCast S6x4096x16x256
    (mulf (transpose S6x4096x8x2x256 [0, 4, 1, 3, 2]
        (Host.dotGeneral dot_S6x4096x8x256_S6x8x2x4096x4096_S6x8x256x2x4096_1_4_3_23_02_01 none K (round (grads Q D K W O qs ds ks vs L)) : FVec Ideal S6x8x256x2x4096 .f32)
        transposes_S6x8x256x2x4096_S6x4096x8x2x256_0_4_1_3_2)
      (broadcastInDim S6x4096x8x2x256 ![0, 1, 2, 3, 4] bcast_S1x1x8x1x1_S6x4096x8x2x256_0_1_2_3_4 (broadcastInDim S1x1x8x1x1 ![2] bcast_S8_S1x1x8x1x1_2
        (mulf ks (broadcastInDim S8 ![] bcast_S_S8 (constant (F := Ideal) S_ .f32 0x3D800000#32))))))
    shapeCasts_S6x4096x8x2x256_S6x4096x16x256 : FVec Ideal S6x4096x16x256 .f32) bitsLt_bf16_f32

/-- Rows weighted by a pair tensor and summed over the query rows, scaled head by head, the two heads of a group added. -/
def back (Y : FVec Ideal S6x4096x16x256 .f32) (X : FVec Ideal S6x8x2x4096x4096 .f32) (s : FVec Ideal S8x2 .f32) : FVec Ideal S6x4096x8x256 .bf16 :=
  truncf .bf16 (Host.reduceAdd
    (mulf (transpose S6x4096x8x2x256 [0, 4, 1, 2, 3]
        (Host.dotGeneral dot_S6x4096x8x2x256_S6x8x2x4096x4096_S6x8x2x256x4096_1_3_4_4_023_012 none
          (shapeCast S6x4096x8x2x256 Y shapeCasts_S6x4096x16x256_S6x4096x8x2x256 : FVec Ideal S6x4096x8x2x256 .f32) (round X) : FVec Ideal S6x8x2x256x4096 .f32)
        transposes_S6x8x2x256x4096_S6x4096x8x2x256_0_4_1_2_3)
      (broadcastInDim S6x4096x8x2x256 ![0, 1, 2, 3, 4] bcast_S1x1x8x2x1_S6x4096x8x2x256_0_1_2_3_4 (broadcastInDim S1x1x8x2x1 ![2, 3] bcast_S8x2_S1x1x8x2x1_2_3 s)))
    (constant (F := Ideal) S_ .f32 0x00000000#32) reducesTo_S6x4096x8x2x256_S6x4096x8x256_d3 h_S_ : FVec Ideal S6x4096x8x256 .f32) bitsLt_bf16_f32

/-- The key gradient. -/
def dk : FVec Ideal S6x4096x8x256 .bf16 :=
  back Q (grads Q D K W O qs ds ks vs L)
    (mulf (shapeCast S8x2 qs shapeCasts_S16_S8x2 : FVec Ideal S8x2 .f32) (broadcastInDim S8x2 ![] bcast_S_S8x2 (constant (F := Ideal) S_ .f32 0x3D800000#32)))

/-- The value gradient. -/
def dv : FVec Ideal S6x4096x8x256 .bf16 :=
  back D (probs Q K qs ks L) (shapeCast S8x2 ds shapeCasts_S16_S8x2 : FVec Ideal S8x2 .f32)

/-- The head of a group's query `r`. -/
abbrev hh (g : Fin 8) (r : Fin 2) : Fin 16 := ⟨g.val * 2 + r.val, by omega⟩

/-- A head's group. -/
abbrev gg (h : Fin 16) : Fin 8 := ⟨h.val / 2, by omega⟩

/-- A head's place in its group. -/
abbrev rr (h : Fin 16) : Fin 2 := ⟨h.val % 2, by omega⟩

section Apply

variable (b : Fin 6) (g : Fin 8) (r : Fin 2) (q k : Fin 4096) (d : Fin 256)

/-- The constant 1/16, as the reference writes it. -/
def k16 : EReal := Ideal.ofBits .f32 1031798784#32

/-- The constant 5, as the reference writes it. -/
def k5 : EReal := Ideal.ofBits .f32 1084227584#32

/-- The scores over the cap, at an index. -/
theorem scores_apply : scores Q K qs ks (ix5 b g r q k)
    = Ideal.tanh (Ideal.div ((∑ d, K (ix4 b k g d) * Q (ix4 b q (hh g r) d)) * (qs (ix1 (hh g r)) * ks (ix1 g) * k16)) k5) := by
  pointwise [scores, prods, spread, scales, all, k16, k5]

/-- The window's test on the positions, as words and as numbers. -/
theorem select_window (u : EReal) :
    Scalar.select (IntOp.andi (IntOp.cmpi .sle (BitVec.ofNat 32 k.val) (BitVec.ofNat 32 q.val))
        (IntOp.cmpi .sgt (BitVec.ofNat 32 k.val) (IntOp.subi (BitVec.ofNat 32 q.val) 2048#32))) u 0
      = if k.val ≤ q.val ∧ q.val < k.val + 2048 then u else 0 := by
  have hk := k.isLt
  have hq := q.isLt
  have ek : (BitVec.ofNat 32 k.val).toInt = k.val := by
    rw [BitVec.toInt_eq_toNat_cond]
    simp only [BitVec.toNat_ofNat]
    split <;> omega
  have eq : (BitVec.ofNat 32 q.val).toInt = q.val := by
    rw [BitVec.toInt_eq_toNat_cond]
    simp only [BitVec.toNat_ofNat]
    split <;> omega
  have es : (BitVec.ofNat 32 q.val - 2048#32).toInt = (q.val : ℤ) - 2048 := by
    rw [BitVec.toInt_eq_toNat_cond]
    simp only [BitVec.toNat_sub, BitVec.toNat_ofNat]
    split <;> omega
  unfold Scalar.select
  simp only [IntOp.cmpi, IntOp.andi, IntOp.subi, BitVec.sle, BitVec.slt, ek, eq, es]
  by_cases h1 : (k.val : ℤ) ≤ q.val <;> by_cases h2 : (q.val : ℤ) - 2048 < k.val
  · rw [decide_eq_true h1, decide_eq_true h2, if_pos (by decide), if_pos ⟨by omega, by omega⟩]
  · rw [decide_eq_true h1, decide_eq_false h2, if_neg (by decide), if_neg (by omega)]
  · rw [decide_eq_false h1, decide_eq_true h2, if_neg (by decide), if_neg (by omega)]
  · rw [decide_eq_false h1, decide_eq_false h2, if_neg (by decide), if_neg (by omega)]

/-- The probabilities, at an index. -/
theorem probs_apply : probs Q K qs ks L (ix5 b g r q k)
    = if k.val ≤ q.val ∧ q.val < k.val + 2048 then Ideal.exp (k5 * scores Q K qs ks (ix5 b g r q k) - L (ix3 b (hh g r) q)) else 0 := by
  pointwise [probs, all, rows, window, k5, select_window]

/-- The scores' gradients, at an index. -/
theorem grads_apply : grads Q D K W O qs ds ks vs L (ix5 b g r q k)
    = probs Q K qs ks L (ix5 b g r q k) *
        ((∑ d, W (ix4 b k g d) * D (ix4 b q (hh g r) d)) * (ds (ix1 (hh g r)) * vs (ix1 g)) -
          ∑ d, D (ix4 b q (hh g r) d) * ds (ix1 (hh g r)) * O (ix4 b q (hh g r) d)) *
      (1 - scores Q K qs ks (ix5 b g r q k) * scores Q K qs ks (ix5 b g r q k)) := by
  pointwise [grads, all, rows, spread, scales, prods, delta]

/-- The query gradient, at an index. -/
theorem dq_apply (h : Fin 16) : dq Q D K W O qs ds ks vs L (ix4 b q h d)
    = (∑ k, K (ix4 b k (gg h) d) * grads Q D K W O qs ds ks vs L (ix5 b (gg h) (rr h) q k)) * (ks (ix1 (gg h)) * k16) := by
  pointwise [dq, round, k16]

/-- The key gradient, at an index. -/
theorem dk_apply : dk Q D K W O qs ds ks vs L (ix4 b k g d)
    = ∑ r, (∑ q, Q (ix4 b q (hh g r) d) * grads Q D K W O qs ds ks vs L (ix5 b g r q k)) * (qs (ix1 (hh g r)) * k16) := by
  pointwise [dk, back, round, k16]

/-- The value gradient, at an index. -/
theorem dv_apply : dv Q D K qs ds ks L (ix4 b k g d)
    = ∑ r, (∑ q, D (ix4 b q (hh g r) d) * probs Q K qs ks L (ix5 b g r q k)) * ds (ix1 (hh g r)) := by
  pointwise [dv, back, round]

end Apply

end Cert.Proof.ReferenceIdeal
-- ==== Proof.ReferenceIdeal.Tail.lean ====
/- The operations after the reference's one kernel call leave the reference's results as `Term.lean` writes them. -/
module

public import proofs.«01_k».proof.Proof.ReferenceIdeal.Term

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (X : Valuation τ sig (Elt Ideal))

set_option maxHeartbeats 4000000 in
/-- The query gradient. -/
theorem tail_dq : StableHlo.after (List.flatten [hostOps1, hostOps1_1, hostOps1_2]) X (Proc.devRef .tc main_v85) = dq (X (Proc.devRef .tc main_v0_0)) (X (Proc.devRef .tc main_v0_3)) (X (Proc.devRef .tc main_v0_1)) (X (Proc.devRef .tc main_v0_2)) (X (Proc.devRef .tc main_arg8)) (X (Proc.devRef .tc main_arg1)) (X (Proc.devRef .tc main_arg7)) (X (Proc.devRef .tc main_arg3)) (X (Proc.devRef .tc main_arg5)) (X (Proc.devRef .tc main_arg9)) := by
  dsimp only [hostOps1, hostOps1_1, hostOps1_2, List.flatten_cons, List.flatten_nil, List.append_nil, List.cons_append, List.nil_append]
  after_results_simp
  rfl

set_option maxHeartbeats 4000000 in
/-- The key gradient. -/
theorem tail_dk : StableHlo.after (List.flatten [hostOps1, hostOps1_1, hostOps1_2]) X (Proc.devRef .tc main_v87) = dk (X (Proc.devRef .tc main_v0_0)) (X (Proc.devRef .tc main_v0_3)) (X (Proc.devRef .tc main_v0_1)) (X (Proc.devRef .tc main_v0_2)) (X (Proc.devRef .tc main_arg8)) (X (Proc.devRef .tc main_arg1)) (X (Proc.devRef .tc main_arg7)) (X (Proc.devRef .tc main_arg3)) (X (Proc.devRef .tc main_arg5)) (X (Proc.devRef .tc main_arg9)) := by
  dsimp only [hostOps1, hostOps1_1, hostOps1_2, List.flatten_cons, List.flatten_nil, List.append_nil, List.cons_append, List.nil_append]
  after_results_simp
  rfl

set_option maxHeartbeats 4000000 in
/-- The value gradient. -/
theorem tail_dv : StableHlo.after (List.flatten [hostOps1, hostOps1_1, hostOps1_2]) X (Proc.devRef .tc main_v89) = dv (X (Proc.devRef .tc main_v0_0)) (X (Proc.devRef .tc main_v0_3)) (X (Proc.devRef .tc main_v0_1)) (X (Proc.devRef .tc main_arg1)) (X (Proc.devRef .tc main_arg7)) (X (Proc.devRef .tc main_arg3)) (X (Proc.devRef .tc main_arg9)) := by
  dsimp only [hostOps1, hostOps1_1, hostOps1_2, List.flatten_cons, List.flatten_nil, List.append_nil, List.cons_append, List.nil_append]
  after_results_simp
  rfl

end Cert.Proof.ReferenceIdeal
-- ==== Proof.ReferenceIdeal.Res.lean ====
/- The reference's three results over its arguments. -/
module

public import proofs.«01_k».proof.Proof.ReferenceIdeal.Arr
public import proofs.«01_k».proof.Proof.ReferenceIdeal.Tail

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- What the operations after the kernel call find. -/
abbrev X0 : Valuation τ sig (Elt Ideal) := Pipeline.withArrays (cfgs 0).spec c (V0 m c) fun w => (dats m 0 c).arrAt w (cfgs 0).N

/-- The widened queries are the argument. -/
theorem X0_4 : X0 m c (Proc.devRef .tc main_v0_0) = (m ((c : Thread nD τ).loc main_arg0) : S6x4096x16x256.Idx → EReal) :=
  (Pipeline.withArrays_arr spec0 (by decide) c _ _ 4).trans (arr4 m c)

/-- The widened keys are the argument. -/
theorem X0_5 : X0 m c (Proc.devRef .tc main_v0_1) = (m ((c : Thread nD τ).loc main_arg2) : S6x4096x8x256.Idx → EReal) :=
  (Pipeline.withArrays_arr spec0 (by decide) c _ _ 5).trans (arr5 m c)

/-- The widened values are the argument. -/
theorem X0_6 : X0 m c (Proc.devRef .tc main_v0_2) = (m ((c : Thread nD τ).loc main_arg4) : S6x4096x8x256.Idx → EReal) :=
  (Pipeline.withArrays_arr spec0 (by decide) c _ _ 6).trans (arr6 m c)

/-- The widened output gradients are the argument. -/
theorem X0_7 : X0 m c (Proc.devRef .tc main_v0_3) = (m ((c : Thread nD τ).loc main_arg6) : S6x4096x16x256.Idx → EReal) :=
  (Pipeline.withArrays_arr spec0 (by decide) c _ _ 7).trans (arr7 m c)

/-- An argument that is no window's array is as it was. -/
theorem X0_of_ne (b : Ref sig .tc) (hb : ∀ w, Pipeline.arrRef spec0 w ≠ b) : X0 m c (Proc.devRef .tc b) = m ((c : Thread nD τ).loc b) :=
  Pipeline.withArrays_of_ne _ c (V0 m c) _ b hb

/-- The query gradient. -/
theorem res_dq : Pipeline.afterTail₀ cfgs (dats m) 0 (V0 m) [hostOps1, hostOps1_1, hostOps1_2] c main_v85
    = dq (m ((c : Thread nD τ).loc main_arg0)) (m ((c : Thread nD τ).loc main_arg6)) (m ((c : Thread nD τ).loc main_arg2)) (m ((c : Thread nD τ).loc main_arg4)) (m ((c : Thread nD τ).loc main_arg8)) (m ((c : Thread nD τ).loc main_arg1)) (m ((c : Thread nD τ).loc main_arg7)) (m ((c : Thread nD τ).loc main_arg3)) (m ((c : Thread nD τ).loc main_arg5)) (m ((c : Thread nD τ).loc main_arg9)) := by
  refine (tail_dq (X0 m c)).trans ?_
  rw [X0_4, X0_7, X0_5, X0_6, X0_of_ne m c main_arg8 (by decide), X0_of_ne m c main_arg1 (by decide), X0_of_ne m c main_arg7 (by decide), X0_of_ne m c main_arg3 (by decide), X0_of_ne m c main_arg5 (by decide), X0_of_ne m c main_arg9 (by decide)]
  all_goals rfl

/-- The key gradient. -/
theorem res_dk : Pipeline.afterTail₀ cfgs (dats m) 0 (V0 m) [hostOps1, hostOps1_1, hostOps1_2] c main_v87
    = dk (m ((c : Thread nD τ).loc main_arg0)) (m ((c : Thread nD τ).loc main_arg6)) (m ((c : Thread nD τ).loc main_arg2)) (m ((c : Thread nD τ).loc main_arg4)) (m ((c : Thread nD τ).loc main_arg8)) (m ((c : Thread nD τ).loc main_arg1)) (m ((c : Thread nD τ).loc main_arg7)) (m ((c : Thread nD τ).loc main_arg3)) (m ((c : Thread nD τ).loc main_arg5)) (m ((c : Thread nD τ).loc main_arg9)) := by
  refine (tail_dk (X0 m c)).trans ?_
  rw [X0_4, X0_7, X0_5, X0_6, X0_of_ne m c main_arg8 (by decide), X0_of_ne m c main_arg1 (by decide), X0_of_ne m c main_arg7 (by decide), X0_of_ne m c main_arg3 (by decide), X0_of_ne m c main_arg5 (by decide), X0_of_ne m c main_arg9 (by decide)]
  all_goals rfl

/-- The value gradient. -/
theorem res_dv : Pipeline.afterTail₀ cfgs (dats m) 0 (V0 m) [hostOps1, hostOps1_1, hostOps1_2] c main_v89
    = dv (m ((c : Thread nD τ).loc main_arg0)) (m ((c : Thread nD τ).loc main_arg6)) (m ((c : Thread nD τ).loc main_arg2)) (m ((c : Thread nD τ).loc main_arg1)) (m ((c : Thread nD τ).loc main_arg7)) (m ((c : Thread nD τ).loc main_arg3)) (m ((c : Thread nD τ).loc main_arg9)) := by
  refine (tail_dv (X0 m c)).trans ?_
  rw [X0_4, X0_7, X0_5, X0_of_ne m c main_arg1 (by decide), X0_of_ne m c main_arg7 (by decide), X0_of_ne m c main_arg3 (by decide), X0_of_ne m c main_arg9 (by decide)]
  all_goals rfl

/-- The run leaves what the operations after the kernel call make of its arrays, and every argument as it was. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v85) = Pipeline.afterTail₀ cfgs (dats m) 0 (V0 m) [hostOps1, hostOps1_1, hostOps1_2] c main_v85
      ∧ r.2.mem ((c.tc : Thread nD τ).loc main_v87) = Pipeline.afterTail₀ cfgs (dats m) 0 (V0 m) [hostOps1, hostOps1_1, hostOps1_2] c main_v87
      ∧ r.2.mem ((c.tc : Thread nD τ).loc main_v89) = Pipeline.afterTail₀ cfgs (dats m) 0 (V0 m) [hostOps1, hostOps1_1, hostOps1_2] c main_v89
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h.2 c).2 main_v85 (Pipeline.mem_restRefs_of main_v85 (by decide) (by decide)), (h.2 c).2 main_v87 (Pipeline.mem_restRefs_of main_v87 (by decide) (by decide)), (h.2 c).2 main_v89 (Pipeline.mem_restRefs_of main_v89 (by decide) (by decide)), h.1 c⟩)
    (θ_run_and (unchanged m ρ) (run_main m ρ))

end Cert.Proof.ReferenceIdeal
-- ==== Proof.Pair.Bridge.lean ====
/- The kernel's formulas are the reference's: the exponential to base 2 of rescaled scores is the natural one, the constant
   1/80 is 1/16 over 5, and the two heads of a group are a sum over two. -/
module

public import proofs.«01_k».proof.Proof.KernelIdeal.Out
public import proofs.«01_k».proof.Proof.ReferenceIdeal.Term

@[expose] public section

set_option maxRecDepth 16384

noncomputable section

namespace Cert.Proof.Pair

open Idealize.ShloMosaic Idealize.ShloMosaic.TcCoe Idealize.SL.Sem
open Cert.Proof.KernelIdeal
open Cert.Proof.ReferenceIdeal (k5 k16 scores probs grads hh gg rr)

/-- The reference's cap is 5. -/
theorem k5_eq : k5 = ((5 : ℝ) : EReal) := by
  simp [k5, Ideal.ofBits, Ideal.ieee, -EReal.coe_mul]; norm_num

/-- Both programs' 1/16 is that number. -/
theorem k16_eq : k16 = ((1 / 16 : ℝ) : EReal) := by
  simp [k16, Ideal.ofBits, Ideal.ieee, -EReal.coe_mul]; norm_num

/-- A hyperbolic tangent is a real number. -/
theorem tanh_real (x : EReal) : ∃ t : ℝ, Ideal.tanh x = t := by
  induction x with
  | bot => exact ⟨-1, rfl⟩
  | top => exact ⟨1, rfl⟩
  | coe r => exact ⟨Real.tanh r, rfl⟩

/-- Dividing by the cap is scaling by 1/80 in place of 1/16. -/
theorem cap (s a b : EReal) : Ideal.div (s * (a * b * k16)) k5 = s * (a * b * c80) := by
  rw [k5_eq, k16_eq]
  have e : c80 = ((1 / 16 : ℝ) : EReal) * ((5 : ℝ) : EReal)⁻¹ := by
    rw [← EReal.coe_inv, ← EReal.coe_mul]
    exact congrArg _ (by norm_num)
  rw [Ideal.div, if_neg (by norm_num), e, mul_assoc, mul_assoc]

/-- The exponential to base 2 of scores and log-sum-exps over `log 2` is the natural exponential. -/
theorem exp2_eq (t : ℝ) (l : EReal) : Ideal.exp2 ((t : EReal) * c5 - l * c1) = Ideal.exp (k5 * (t : EReal) - l) := by
  have h2 : 0 < Real.log 2 := Real.log_pos (by norm_num)
  have hi : (0 : ℝ) < (Real.log 2)⁻¹ := inv_pos.mpr h2
  rw [k5_eq, c5, c1, ← EReal.coe_mul, ← EReal.coe_mul]
  induction l with
  | bot => rw [EReal.bot_mul_coe_of_pos hi, EReal.coe_sub_bot, EReal.coe_sub_bot]; rfl
  | top => rw [EReal.top_mul_coe_of_pos hi, sub_eq_add_neg, sub_eq_add_neg, EReal.neg_top, EReal.add_bot, EReal.add_bot]; rfl
  | coe r =>
    rw [← EReal.coe_mul, ← EReal.coe_sub, ← EReal.coe_sub]
    refine congrArg Real.toEReal ?_
    refine (Real.rpow_def_of_pos (by norm_num) _).trans (congrArg Real.exp ?_)
    field_simp

/-- The two numberings of a group's heads. -/
theorem hd_eq (g : Fin 8) (r : Fin 2) : hd g r = hh g r := Fin.ext (by simp only [hd]; omega)

/-- A head's rows, at an index. -/
theorem hds_apply {φ : FTy} (X : FVec Ideal Cert.KernelIdeal.S6x4096x16x256 φ) (b : Fin 6) (g : Fin 8) (r : Fin 2) (q : Fin 4096) (d : Fin 256) :
    hds X b g (ix4 0 r q d) = X (ix4 b q (hh g r) d) := by
  rw [← hd_eq]
  rfl

section Formulas

variable (T : FVec Ideal Cert.KernelIdeal.S4x16 .f32) (Q : FVec Ideal Cert.KernelIdeal.S6x4096x16x256 .fp8e4m3)
  (K W : FVec Ideal Cert.KernelIdeal.S6x4096x8x256 .fp8e4m3) (D : FVec Ideal Cert.KernelIdeal.S6x4096x16x256 .fp8e5m2)
  (O : FVec Ideal Cert.KernelIdeal.S6x4096x16x256 .bf16) (L : FVec Ideal Cert.KernelIdeal.S6x16x4096 .f32)
  (qs ds : FVec Ideal Cert.KernelIdeal.S16 .f32) (ks vs : FVec Ideal Cert.KernelIdeal.S8 .f32)
  (b : Fin 6) (g : Fin 8) (r : Fin 2) (q k : Fin 4096) (d : Fin 256)
  (hq : ∀ h, T (ix2 0 h) = qs (ix1 h)) (hk : ∀ g, T (ix2 1 (gk g)) = ks (ix1 g))
  (hd2 : ∀ h, T (ix2 2 h) = ds (ix1 h)) (hv : ∀ g, T (ix2 3 (gk g)) = vs (ix1 g))

include hq hk

/-- The scores over the cap. -/
theorem tB_eq : tB (cS T g r) (hds Q b g) (grp K b g) r k q = scores Q K qs ks (ix5 b g r q k) := by
  rw [ReferenceIdeal.scores_apply, cap, tB, cS, hq, hk, ← hd_eq]
  rfl

/-- The probabilities. -/
theorem pB_eq : pB (cS T g r) (hds Q b g) (grp K b g) (lseG L b g) r k q = probs Q K qs ks L (ix5 b g r q k) := by
  rw [ReferenceIdeal.probs_apply, pB, tB_eq T Q K qs ks b g r q k hq hk]
  obtain ⟨t, e⟩ := (ReferenceIdeal.scores_apply Q K qs ks b g r q k) ▸ tanh_real _
  rw [e, exp2_eq, lseG, hd_eq]

include hd2 hv

/-- The scores' gradients over their own scale. -/
theorem dB_eq : dBV T (hds Q b g) (grp K b g) (grp W b g) (hds D b g) (lseG L b g) (dlV T (hds D b g) (hds O b g) g) g r k q
    = grads Q D K W O qs ds ks vs L (ix5 b g r q k) := by
  rw [ReferenceIdeal.grads_apply, dBV, dB, pB_eq T Q K L qs ks b g r q k hq hk, tB_eq T Q K qs ks b g r q k hq hk, cD, dlV, hd2, hv, ← hd_eq]
  rfl

/-- The query gradient. -/
theorem dq_eq (h : Fin 16) : dqG T Q K W D O L b (hg h) (hr h) q d = ReferenceIdeal.dq Q D K W O qs ds ks vs L (ix4 b q h d) := by
  rw [ReferenceIdeal.dq_apply, dqG, dqV, hk]
  refine congrArg₂ (· * ·) (Finset.sum_congr rfl fun k _ => ?_) rfl
  exact congrArg₂ (· * ·) rfl (dB_eq T Q K W D O L qs ds ks vs b (hg h) (hr h) q k hq hk hd2 hv)

/-- The key gradient. -/
theorem dk_eq : dkG T Q K W D O L b g k d = ReferenceIdeal.dk Q D K W O qs ds ks vs L (ix4 b k g d) := by
  have half (r : Fin 2) : (∑ q, dBV T (hds Q b g) (grp K b g) (grp W b g) (hds D b g) (lseG L b g) (dlV T (hds D b g) (hds O b g) g) g r k q
        * hds Q b g (ix4 0 r q d)) * (T (ix2 0 (hd g r)) * c16)
      = (∑ q, Q (ix4 b q (hh g r) d) * grads Q D K W O qs ds ks vs L (ix5 b g r q k)) * (qs (ix1 (hh g r)) * k16) := by
    rw [hq, hd_eq]
    refine congrArg₂ (· * ·) (Finset.sum_congr rfl fun q _ => ?_) rfl
    rw [dB_eq T Q K W D O L qs ds ks vs b g r q k hq hk hd2 hv, hds_apply, mul_comm]
  rw [ReferenceIdeal.dk_apply, Fin.sum_univ_two, ← half 0, ← half 1, dkG, dkV, zero_add]

omit hv
/-- The value gradient. -/
theorem dv_eq : dvG T Q K D L b g k d = ReferenceIdeal.dv Q D K qs ds ks L (ix4 b k g d) := by
  have half (r : Fin 2) : (∑ q, pB (cS T g r) (hds Q b g) (grp K b g) (lseG L b g) r k q * hds D b g (ix4 0 r q d)) * T (ix2 2 (hd g r))
      = (∑ q, D (ix4 b q (hh g r) d) * probs Q K qs ks L (ix5 b g r q k)) * ds (ix1 (hh g r)) := by
    rw [hd2, hd_eq]
    refine congrArg₂ (· * ·) (Finset.sum_congr rfl fun q _ => ?_) rfl
    rw [pB_eq T Q K L qs ks b g r q k hq hk, hds_apply, mul_comm]
  rw [ReferenceIdeal.dv_apply, Fin.sum_univ_two, ← half 0, ← half 1, dvG, dvV, zero_add]

end Formulas

end Cert.Proof.Pair
-- ==== Proof.Pair.Claim.lean ====
/- The value claim: over the reals the kernel's three results are the reference's. -/
module

public import proofs.«01_k».proof.Defs
public import proofs.«01_k».proof.Proof.KernelIdeal.Res
public import proofs.«01_k».proof.Proof.ReferenceIdeal.Res
public import proofs.«01_k».proof.Proof.Pair.Bridge

@[expose] public section

set_option maxRecDepth 16384

noncomputable section

namespace Cert.Proof.Pair

open Idealize.ShloMosaic Idealize.ShloMosaic.TcCoe Idealize.SL.Sem

/-- The query gradient. -/
theorem dq_res
  (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (KernelIdeal.dats m) 0 (Cert.KernelIdeal.Gen.V0 m) [Cert.KernelIdeal.Gen.hostOps1] c Cert.KernelIdeal.main_v14
    = ReferenceIdeal.dq (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) := by
  rw [KernelIdeal.res14]
  funext z
  idx_vars z
  exact dq_eq (Cert.KernelIdeal.Gen.V m c Cert.KernelIdeal.main_v6) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) z0 z1 z3 (KernelIdeal.V6_0 m c) (KernelIdeal.V6_1 m c) (KernelIdeal.V6_2 m c) (KernelIdeal.V6_3 m c) z2

/-- The key gradient. -/
theorem dk_res
  (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (KernelIdeal.dats m) 0 (Cert.KernelIdeal.Gen.V0 m) [Cert.KernelIdeal.Gen.hostOps1] c Cert.KernelIdeal.main_v15
    = ReferenceIdeal.dk (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) := by
  rw [KernelIdeal.res15]
  funext z
  idx_vars z
  exact dk_eq (Cert.KernelIdeal.Gen.V m c Cert.KernelIdeal.main_v6) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) z0 z2 z1 z3 (KernelIdeal.V6_0 m c) (KernelIdeal.V6_1 m c) (KernelIdeal.V6_2 m c) (KernelIdeal.V6_3 m c)

/-- The value gradient. -/
theorem dv_res
  (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (KernelIdeal.dats m) 0 (Cert.KernelIdeal.Gen.V0 m) [Cert.KernelIdeal.Gen.hostOps1] c Cert.KernelIdeal.main_v16
    = ReferenceIdeal.dv (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) := by
  rw [KernelIdeal.res16]
  funext z
  idx_vars z
  exact dv_eq (Cert.KernelIdeal.Gen.V m c Cert.KernelIdeal.main_v6) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) z0 z2 z1 z3 (KernelIdeal.V6_0 m c) (KernelIdeal.V6_1 m c) (KernelIdeal.V6_2 m c)

/-- From memories that agree on the arguments, the kernel's results are the reference's. -/
theorem algebraic : @Cert.algebraic_KernelIdeal_ReferenceIdeal Cert.KernelIdeal.Gen.facts Cert.ReferenceIdeal.Gen.facts := by
  intro m g m' g' _ hm
  refine ⟨_, _, _, KernelIdeal.results m g, (θ_run _ _ _).mono (fun r h c => ?_) (ReferenceIdeal.results m' g')⟩
  obtain ⟨h0, h1, h2, hargs⟩ := h c
  obtain ⟨a0, a1, a2, a3, a4, a5, a6, a7, a8, a9⟩ := hm c
  refine ⟨h0.trans ?_, h1.trans ?_, h2.trans ?_, hargs⟩
  · rw [ReferenceIdeal.res_dq, dq_res, a0, a1, a2, a3, a4, a5, a6, a7, a8, a9]
  · rw [ReferenceIdeal.res_dk, dk_res, a0, a1, a2, a3, a4, a5, a6, a7, a8, a9]
  · rw [ReferenceIdeal.res_dv, dv_res, a0, a1, a2, a3, a6, a7, a9]

end Cert.Proof.Pair
-- ==== Proof.lean ====
module

public import proofs.«01_k».proof.Defs
public import proofs.«01_k».proof.Proof.Gen.ReferenceIdeal.Frame
public import proofs.«01_k».proof.Proof.Kernel.Run
public import proofs.«01_k».proof.Proof.KernelIdeal.Run
public import proofs.«01_k».proof.Proof.Pair.Claim

@[expose] public section

noncomputable section

namespace Cert.Proof

open Idealize.ShloMosaic Idealize.SL.Sem Cert.Kernel

/-- Each named constant's word is the nearest to the number it names. -/
theorem preserves : preserves_Kernel_KernelIdeal :=
  ⟨IdealRules.named_const.statement Cert.KernelIdeal.κ "sm_over_softcap" .f32 0x3C4CCCCD#32 ((1 / 80 : ℝ) : EReal) rfl,
   IdealRules.named_const.statement Cert.KernelIdeal.κ "inv_log_2" .f32 0x3FB8AA3B#32 (((Real.log 2)⁻¹ : ℝ) : EReal) rfl,
   IdealRules.named_const.statement Cert.KernelIdeal.κ "softcap_inv_log_2" .f32 0x40E6D4CA#32 ((5 * (Real.log 2)⁻¹ : ℝ) : EReal) rfl⟩

/-- The claim. -/
theorem claim : Cert.Claim :=
  ⟨Cert.Kernel.Gen.facts, Cert.KernelIdeal.Gen.facts, Cert.ReferenceIdeal.Gen.facts,
    fun m ρ _ => Cert.Proof.Kernel.frame m ρ, fun m ρ _ => Cert.Proof.KernelIdeal.frame m ρ,
    fun m ρ _ => Cert.ReferenceIdeal.Gen.frame m ρ, preserves, Cert.Proof.Pair.algebraic⟩

end Cert.Proof

end
